-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xC6EA6000#32 ⊥
  ∧ IdealRules.named_const.Statement Cert.KernelIdeal.κ "scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x10 : Shape := ⟨2, ![2048, 10]⟩
abbrev S2048x4 : Shape := ⟨2, ![2048, 4]⟩
abbrev S4x512 : Shape := ⟨2, ![4, 512]⟩
abbrev S512 : Shape := ⟨1, ![512]⟩
abbrev S10x512 : Shape := ⟨2, ![10, 512]⟩
abbrev S512x512 : Shape := ⟨2, ![512, 512]⟩
abbrev S2048 : Shape := ⟨1, ![2048]⟩
abbrev S_ : Shape := ⟨0, ![]⟩

class Facts : Prop where
  bcast_S_S2048x10 : S_.BroadcastsInDim S2048x10 (![] : Fin 0 → Fin S2048x10.rank)
  reducesTo_S2048x10_S_d0_1 : S2048x10.ReducesTo [0, 1] S_
  h_S_ : 0 < S_.numel
  bcast_S_S512 : S_.BroadcastsInDim S512 (![] : Fin 0 → Fin S512.rank)
  reducesTo_S512_S_d0 : S512.ReducesTo [0] S_
  bcast_S_S10x512 : S_.BroadcastsInDim S10x512 (![] : Fin 0 → Fin S10x512.rank)
  reducesTo_S10x512_S_d0_1 : S10x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg7 : FVec F S512x512 .f32) (main_arg8 : FVec F S512x512 .f32) (main_v13 : IVec S_ 1) (main_v16 : IVec S10x512 1) : IVec S_ 1 :=
  let main_c_5 : IVec S_ 1 := constantI S_ 1 1#1
  let main_v17 : IVec S_ 1 := (fun x v => Host.reduce IntOp.andi x v reducesTo_S10x512_S_d0_1 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg8
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S2048x10 .f32) (main_arg1 : FVec F S2048x4 .f32) (main_arg2 : FVec F S4x512 .f32) (main_arg3 : FVec F S512 .f32) (main_arg4 : FVec F S512 .f32) (main_arg5 : FVec F S512 .f32) (main_arg6 : FVec F S10x512 .f32) (main_arg7 : FVec F S512x512 .f32) (main_arg8 : FVec F S512x512 .f32) (main_arg9 : FVec F S512x512 .f32) (main_arg10 : FVec F S512x512 .f32) (main_arg11 : IVec S2048 32) : IVec S_ 1 :=
  let main_v0 : FVec F S2048x10 .f32 := Host.absf main_arg0
  let main_cst : FVec F S_ .f32 := constant S_ .f32 0x7F800000#32
  let main_v1 : FVec F S2048x10 .f32 := broadcastInDim S2048x10 ![] bcast_S_S2048x10 main_cst
  let main_v2 : IVec S2048x10 1 := cmpf .olt main_v0 main_v1
  let main_c : IVec S_ 1 := constantI S_ 1 1#1
  let main_v3 : IVec S_ 1 := (fun x v => Host.reduce IntOp.andi x v reducesTo_S2048x10_S_d0_1 h_S_) main_v2 main_c
  let main_v4 : FVec F S512 .f32 := Host.absf main_arg4
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S10x512 .f32 := Host.absf main_arg6
  let main_cst_4 : FVec F S_ .f32 := constant S_ .f32 0x7F800000#32
  let main_v15 : FVec F S10x512 .f32 := broadcastInDim S10x512 ![] bcast_S_S10x512 main_cst_4
  let main_v16 : IVec S10x512 1 := cmpf .olt main_v14 main_v15
  fn_part1 (F := F) main_arg7 main_arg8 main_v13 main_v16
-- ==== Kernel.lean ====
abbrev S2048x10 : Shape := ⟨2, ![2048, 10]⟩
abbrev S2048x4 : Shape := ⟨2, ![2048, 4]⟩
abbrev S4x512 : Shape := ⟨2, ![4, 512]⟩
abbrev S512 : Shape := ⟨1, ![512]⟩
abbrev S10x512 : Shape := ⟨2, ![10, 512]⟩
abbrev S512x512 : Shape := ⟨2, ![512, 512]⟩
abbrev S2048 : Shape := ⟨1, ![2048]⟩
abbrev S2048x1 : Shape := ⟨2, ![2048, 1]⟩
abbrev S1x2048 : Shape := ⟨2, ![1, 2048]⟩
abbrev S10x2048 : Shape := ⟨2, ![10, 2048]⟩
abbrev S4x2048 : Shape := ⟨2, ![4, 2048]⟩
abbrev S1x512 : Shape := ⟨2, ![1, 512]⟩
abbrev S2048x512 : Shape := ⟨2, ![2048, 512]⟩
abbrev S1024x10 : Shape := ⟨2, ![1024, 10]⟩
abbrev S1024x4 : Shape := ⟨2, ![1024, 4]⟩
abbrev S1024x1 : Shape := ⟨2, ![1024, 1]⟩
abbrev S1024x512 : Shape := ⟨2, ![1024, 512]⟩
abbrev S512x2048 : Shape := ⟨2, ![512, 2048]⟩
abbrev S2048x1024 : Shape := ⟨2, ![2048, 1024]⟩
abbrev S2048x2048 : Shape := ⟨2, ![2048, 2048]⟩
abbrev S1024 : Shape := ⟨1, ![1024]⟩
abbrev S1024x2048 : Shape := ⟨2, ![1024, 2048]⟩
abbrev S512x1024 : Shape := ⟨2, ![512, 1024]⟩
abbrev S1024x63 : Shape := ⟨2, ![1024, 63]⟩
abbrev S1024x64 : Shape := ⟨2, ![1024, 64]⟩
abbrev S1024x128 : Shape := ⟨2, ![1024, 128]⟩
abbrev S64x2048 : Shape := ⟨2, ![64, 2048]⟩
abbrev S2048x128 : Shape := ⟨2, ![2048, 128]⟩

abbrev nBuf : Space → Nat
  | .hbm => 24
  | .vmem => 27
  | .smem => 0
  | _ => 0

abbrev bufTy : (tb : Table) → Fin (tcTables nBuf tb) → BufTy
  | .hbm, ⟨0, _⟩ => ⟨S2048x10, .f32⟩
  | .hbm, ⟨1, _⟩ => ⟨S2048x4, .f32⟩
  | .hbm, ⟨2, _⟩ => ⟨S4x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S10x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S2048, .i32⟩
  | .hbm, ⟨12, _⟩ => ⟨S2048x1, .i32⟩
  | .hbm, ⟨13, _⟩ => ⟨S1x2048, .i32⟩
  | .hbm, ⟨14, _⟩ => ⟨S10x2048, .f32⟩
  | .hbm, ⟨15, _⟩ => ⟨S4x2048, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S512x512, .bf16⟩
  | .hbm, ⟨20, _⟩ => ⟨S512x512, .bf16⟩
  | .hbm, ⟨21, _⟩ => ⟨S512x512, .bf16⟩
  | .hbm, ⟨22, _⟩ => ⟨S512x512, .bf16⟩
  | .hbm, ⟨23, _⟩ => ⟨S2048x512, .f32⟩
  | .local _ .vmem, ⟨0, _⟩ => ⟨S1024x10, .f32⟩
  | .local _ .vmem, ⟨1, _⟩ => ⟨S1024x10, .f32⟩
  | .local _ .vmem, ⟨2, _⟩ => ⟨S1024x4, .f32⟩
  | .local _ .vmem, ⟨3, _⟩ => ⟨S1024x4, .f32⟩
  | .local _ .vmem, ⟨4, _⟩ => ⟨S10x2048, .f32⟩
  | .local _ .vmem, ⟨5, _⟩ => ⟨S4x2048, .f32⟩
  | .local _ .vmem, ⟨6, _⟩ => ⟨S4x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S10x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1024x1, .i32⟩
  | .local _ .vmem, ⟨16, _⟩ => ⟨S1024x1, .i32⟩
  | .local _ .vmem, ⟨17, _⟩ => ⟨S1x2048, .i32⟩
  | .local _ .vmem, ⟨18, _⟩ => ⟨S1024x512, .f32⟩
  | .local _ .vmem, ⟨19, _⟩ => ⟨S1024x512, .f32⟩
  | .local _ .vmem, ⟨20, _⟩ => ⟨S2048x512, .f32⟩
  | .local _ .vmem, ⟨21, _⟩ => ⟨S2048x512, .bf16⟩
  | .local _ .vmem, ⟨22, _⟩ => ⟨S512x2048, .bf16⟩
  | .local _ .vmem, ⟨23, _⟩ => ⟨S2048x1024, .bf16⟩
  | .local _ .vmem, ⟨24, _⟩ => ⟨S2048x2048, .bf16⟩
  | .local _ .vmem, ⟨25, _⟩ => ⟨S2048x1, .i32⟩
  | .local _ .vmem, ⟨26, _⟩ => ⟨S1x2048, .i32⟩
  | _, _ => ⟨S2048x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1024_i32 : BitVec 32 := 1024#32
  let v6 : BitVec 32 := Scalar.muli arg0 c1024_i32
  let v46 : Index := Scalar.indexCast v6
  let c0_21 : Index := 0#32
  ![v46.toNat, 0]
def k0_off2 (i : grid0.Coords) : Fin 2 → Nat :=
  let arg0 : BitVec 32 := BitVec.ofNat 32 (i 0).val
  let c1024_i32 : BitVec 32 := 1024#32
  let v6 : BitVec 32 := Scalar.muli arg0 c1024_i32
  let v68 : Index := Scalar.indexCast v6
  let c0_26 : Index := 0#32
  ![v68.toNat, 0]
def k0_off3 (i : grid0.Coords) : Fin 2 → Nat :=
  let arg0 : BitVec 32 := BitVec.ofNat 32 (i 0).val
  let c1024_i32 : BitVec 32 := 1024#32
  let v6 : BitVec 32 := Scalar.muli arg0 c1024_i32
  let v128 : Index := Scalar.indexCast v6
  let c0_51 : Index := 0#32
  ![v128.toNat, 0]
def k0_off4 (i : grid0.Coords) : Fin 2 → Nat :=
  let c0_60 : Index := 0#32
  let arg0 : BitVec 32 := BitVec.ofNat 32 (i 0).val
  let c1024_i32 : BitVec 32 := 1024#32
  let v6 : BitVec 32 := Scalar.muli arg0 c1024_i32
  let v150 : Index := Scalar.indexCast v6
  ![0, v150.toNat]
def k0_off5 (i : grid0.Coords) : Fin 2 → Nat :=
  let arg0 : BitVec 32 := BitVec.ofNat 32 (i 0).val
  let c1024_i32 : BitVec 32 := 1024#32
  let v6 : BitVec 32 := Scalar.muli arg0 c1024_i32
  let v162 : Index := Scalar.indexCast v6
  let c0_66 : Index := 0#32
  ![v162.toNat, 0]
def k0_off6 (i : grid0.Coords) : Fin 2 → Nat :=
  let arg0 : BitVec 32 := BitVec.ofNat 32 (i 0).val
  let c1024_i32 : BitVec 32 := 1024#32
  let v6 : BitVec 32 := Scalar.muli arg0 c1024_i32
  let v168 : Index := Scalar.indexCast v6
  let c128 : Index := 128#32
  ![v168.toNat, 128]
def k0_off7 (i : grid0.Coords) : Fin 2 → Nat :=
  let arg0 : BitVec 32 := BitVec.ofNat 32 (i 0).val
  let c1024_i32 : BitVec 32 := 1024#32
  let v6 : BitVec 32 := Scalar.muli arg0 c1024_i32
  let v174 : Index := Scalar.indexCast v6
  let c256 : Index := 256#32
  ![v174.toNat, 256]
def k0_off8 (i : grid0.Coords) : Fin 2 → Nat :=
  let arg0 : BitVec 32 := BitVec.ofNat 32 (i 0).val
  let c1024_i32 : BitVec 32 := 1024#32
  let v6 : BitVec 32 := Scalar.muli arg0 c1024_i32
  let v180 : Index := Scalar.indexCast v6
  let c384 : Index := 384#32
  ![v180.toNat, 384]
def k0_off9 (i : grid0.Coords) : Fin 2 → Nat :=
  let arg0 : BitVec 32 := BitVec.ofNat 32 (i 0).val
  let c1024_i32 : BitVec 32 := 1024#32
  let v6 : BitVec 32 := Scalar.muli arg0 c1024_i32
  let v186 : Index := Scalar.indexCast v6
  let c512 : Index := 512#32
  ![v186.toNat, 512]
def k0_off10 (i : grid0.Coords) : Fin 2 → Nat :=
  let arg0 : BitVec 32 := BitVec.ofNat 32 (i 0).val
  let c1024_i32 : BitVec 32 := 1024#32
  let v6 : BitVec 32 := Scalar.muli arg0 c1024_i32
  let v192 : Index := Scalar.indexCast v6
  let c640 : Index := 640#32
  ![v192.toNat, 640]
def k0_off11 (i : grid0.Coords) : Fin 2 → Nat :=
  let arg0 : BitVec 32 := BitVec.ofNat 32 (i 0).val
  let c1024_i32 : BitVec 32 := 1024#32
  let v6 : BitVec 32 := Scalar.muli arg0 c1024_i32
  let v198 : Index := Scalar.indexCast v6
  let c768 : Index := 768#32
  ![v198.toNat, 768]
def k0_off12 (i : grid0.Coords) : Fin 2 → Nat :=
  let arg0 : BitVec 32 := BitVec.ofNat 32 (i 0).val
  let c1024_i32 : BitVec 32 := 1024#32
  let v6 : BitVec 32 := Scalar.muli arg0 c1024_i32
  let v204 : Index := Scalar.indexCast v6
  let c896 : Index := 896#32
  ![v204.toNat, 896]
def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def k0_off13 (i : grid0.Coords) : Fin 2 → Nat :=
  let arg0 : BitVec 32 := BitVec.ofNat 32 (i 0).val
  let c2_i32_2 : BitVec 32 := 2#32
  let v6 : BitVec 32 := Scalar.subi arg0 c2_i32_2
  let c1024_i32 : BitVec 32 := 1024#32
  let v7 : BitVec 32 := Scalar.muli v6 c1024_i32
  let v8 : Index := Scalar.indexCast v7
  let c0 : Index := 0#32
  ![v8.toNat, 0]
def k0_off14 (i : grid0.Coords) : Fin 2 → Nat :=
  let arg0 : BitVec 32 := BitVec.ofNat 32 (i 0).val
  let c2_i32_2 : BitVec 32 := 2#32
  let v6 : BitVec 32 := Scalar.subi arg0 c2_i32_2
  let c1024_i32 : BitVec 32 := 1024#32
  let v7 : BitVec 32 := Scalar.muli v6 c1024_i32
  let v14 : Index := Scalar.indexCast v7
  let c0_7 : Index := 0#32
  ![v14.toNat, 0]
def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S2048x10 : Shape := ⟨2, ![2048, 10]⟩
abbrev S2048x4 : Shape := ⟨2, ![2048, 4]⟩
abbrev S4x512 : Shape := ⟨2, ![4, 512]⟩
abbrev S512 : Shape := ⟨1, ![512]⟩
abbrev S10x512 : Shape := ⟨2, ![10, 512]⟩
abbrev S512x512 : Shape := ⟨2, ![512, 512]⟩
abbrev S2048 : Shape := ⟨1, ![2048]⟩
abbrev S2048x512 : Shape := ⟨2, ![2048, 512]⟩
abbrev S1x512 : Shape := ⟨2, ![1, 512]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S1x2048x1 : Shape := ⟨3, ![1, 2048, 1]⟩

abbrev nBuf : Space → Nat
  | .hbm => 154
  | .vmem => 0
  | .smem => 0
  | _ => 0

abbrev hbmTy0_0 (i : Nat) : BufTy := match i % 128 with
  | 0 => ⟨S2048x10, .f32⟩
  | 1 => ⟨S2048x4, .f32⟩
  | 2 => ⟨S4x512, .f32⟩
  | 3 => ⟨S512, .f32⟩
  | 4 => ⟨S512, .f32⟩
  | 5 => ⟨S512, .f32⟩
  | 6 => ⟨S10x512, .f32⟩
  | 7 => ⟨S512x512, .f32⟩
  | 8 => ⟨S512x512, .f32⟩
  | 9 => ⟨S512x512, .f32⟩
  | 10 => ⟨S512x512, .f32⟩
  | 11 => ⟨S2048, .i32⟩
  | 12 => ⟨S2048x512, .f32⟩
  | 13 => ⟨S1x512, .f32⟩
  | 14 => ⟨S2048x512, .f32⟩
  | 15 => ⟨S2048x512, .f32⟩
  | 16 => ⟨S_, .f32⟩
  | 17 => ⟨S2048, .f32⟩
  | 18 => ⟨S2048x1, .f32⟩
  | 19 => ⟨S_, .f32⟩
  | 20 => ⟨S2048x1, .f32⟩
  | 21 => ⟨S2048x1, .f32⟩
  | 22 => ⟨S_, .i32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S2048x512, .f32⟩
  | 30 => ⟨S2048x512, .f32⟩
  | 31 => ⟨S2048x512, .f32⟩
  | 32 => ⟨S_, .f32⟩
  | 33 => ⟨S_, .f32⟩
  | 34 => ⟨S_, .f32⟩
  | 35 => ⟨S_, .f32⟩
  | 36 => ⟨S2048, .f32⟩
  | 37 => ⟨S2048x1, .f32⟩
  | 38 => ⟨S2048x1, .f32⟩
  | 39 => ⟨S2048x1, .f32⟩
  | 40 => ⟨S_, .f32⟩
  | 41 => ⟨S_, .i1⟩
  | 42 => ⟨S_, .f32⟩
  | 43 => ⟨S_, .f32⟩
  | 44 => ⟨S2048x1, .f32⟩
  | 45 => ⟨S2048x1, .f32⟩
  | 46 => ⟨S2048x512, .f32⟩
  | 47 => ⟨S2048x512, .f32⟩
  | 48 => ⟨S_, .f32⟩
  | 49 => ⟨S2048x1, .f32⟩
  | 50 => ⟨S2048x1, .f32⟩
  | 51 => ⟨S2048x1, .f32⟩
  | 52 => ⟨S2048x512, .f32⟩
  | 53 => ⟨S2048x512, .f32⟩
  | 54 => ⟨S1x512, .f32⟩
  | 55 => ⟨S2048x512, .f32⟩
  | 56 => ⟨S2048x512, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S_, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x1, .f32⟩
  | 72 => ⟨S2048, .f32⟩
  | 73 => ⟨S_, .f32⟩
  | 74 => ⟨S2048, .f32⟩
  | 75 => ⟨S2048, .i1⟩
  | 76 => ⟨S2048x1, .f32⟩
  | 77 => ⟨S2048, .f32⟩
  | 78 => ⟨S_, .f32⟩
  | 79 => ⟨S2048, .f32⟩
  | 80 => ⟨S2048, .i1⟩
  | 81 => ⟨S2048x1, .f32⟩
  | 82 => ⟨S2048, .f32⟩
  | 83 => ⟨S_, .f32⟩
  | 84 => ⟨S2048, .f32⟩
  | 85 => ⟨S2048, .i1⟩
  | 86 => ⟨S2048x1, .i32⟩
  | 87 => ⟨S1x2048, .i32⟩
  | 88 => ⟨S2048x2048, .i32⟩
  | 89 => ⟨S2048x2048, .i32⟩
  | 90 => ⟨S2048x2048, .i1⟩
  | 91 => ⟨S2048x1, .i1⟩
  | 92 => ⟨S1x2048, .i1⟩
  | 93 => ⟨S2048x2048, .i1⟩
  | 94 => ⟨S2048x2048, .i1⟩
  | 95 => ⟨S2048x2048, .i1⟩
  | 96 => ⟨S2048x1, .i1⟩
  | 97 => ⟨S1x2048, .i1⟩
  | 98 => ⟨S2048x2048, .i1⟩
  | 99 => ⟨S2048x2048, .i1⟩
  | 100 => ⟨S2048x2048, .i1⟩
  | 101 => ⟨S2048x2048, .i1⟩
  | 102 => ⟨S2048x1, .i1⟩
  | 103 => ⟨S1x2048, .i1⟩
  | 104 => ⟨S2048x2048, .i1⟩
  | 105 => ⟨S2048x2048, .i1⟩
  | 106 => ⟨S2048x2048, .i1⟩
  | 107 => ⟨S2048x2048, .i1⟩
  | 108 => ⟨S2048x2048, .i1⟩
  | 109 => ⟨S2048x512, .f32⟩
  | 110 => ⟨S2048x8x64, .f32⟩
  | 111 => ⟨S8x2048x64, .f32⟩
  | 112 => ⟨S2048x512, .f32⟩
  | 113 => ⟨S2048x8x64, .f32⟩
  | 114 => ⟨S8x2048x64, .f32⟩
  | 115 => ⟨S2048x512, .f32⟩
  | 116 => ⟨S2048x8x64, .f32⟩
  | 117 => ⟨S8x2048x64, .f32⟩
  | 118 => ⟨S8x2048x2048, .f32⟩
  | 119 => ⟨S_, .f32⟩
  | 120 => ⟨S8x2048x2048, .f32⟩
  | 121 => ⟨S8x2048x2048, .f32⟩
  | 122 => ⟨S1x2048x2048, .i1⟩
  | 123 => ⟨S_, .f32⟩
  | 124 => ⟨S_, .f32⟩
  | 125 => ⟨S8x2048x2048, .i1⟩
  | 126 => ⟨S8x2048x2048, .f32⟩
  | 127 => ⟨S8x2048x2048, .f32⟩
  | _ => ⟨S2048x10, .f32⟩

abbrev hbmTy0_1 (i : Nat) : BufTy := match i % 128 with
  | 0 => ⟨S_, .f32⟩
  | 1 => ⟨S8x2048, .f32⟩
  | 2 => ⟨S_, .f32⟩
  | 3 => ⟨S8x2048, .f32⟩
  | 4 => ⟨S8x2048, .f32⟩
  | 5 => ⟨S8x2048x1, .f32⟩
  | 6 => ⟨S8x2048x2048, .f32⟩
  | 7 => ⟨S8x2048x2048, .f32⟩
  | 8 => ⟨S8x2048x2048, .f32⟩
  | 9 => ⟨S_, .f32⟩
  | 10 => ⟨S8x2048, .f32⟩
  | 11 => ⟨S8x2048x1, .f32⟩
  | 12 => ⟨S8x2048x2048, .f32⟩
  | 13 => ⟨S8x2048x2048, .f32⟩
  | 14 => ⟨S_, .i1⟩
  | 15 => ⟨S2048, .i1⟩
  | 16 => ⟨S1x2048x1, .i1⟩
  | 17 => ⟨S_, .f32⟩
  | 18 => ⟨S8x2048x2048, .i1⟩
  | 19 => ⟨S8x2048x2048, .f32⟩
  | 20 => ⟨S8x2048x2048, .f32⟩
  | 21 => ⟨S8x2048x64, .f32⟩
  | 22 => ⟨S2048x8x64, .f32⟩
  | 23 => ⟨S2048x512, .f32⟩
  | 24 => ⟨S2048x512, .f32⟩
  | 25 => ⟨S2048x512, .f32⟩
  | _ => ⟨S2048x10, .f32⟩

abbrev hbmTy (i : Nat) : BufTy := match i / 128 with
  | 0 => hbmTy0_0 i
  | 1 => hbmTy0_1 i
  | _ => ⟨S2048x10, .f32⟩

abbrev bufTy : (tb : Table) → Fin (tcTables nBuf tb) → BufTy
  | .hbm, ⟨i, _⟩ => hbmTy i
  | _, _ => ⟨S2048x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_6 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_7 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_8 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v79 : Ref sig .tc := ⟨.hbm, 127, rfl⟩
abbrev main_cst_9 : Ref sig .tc := ⟨.hbm, 128, rfl⟩
abbrev main_v80 : Ref sig .tc := ⟨.hbm, 129, rfl⟩
abbrev main_cst_10 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_11 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_12 : Ref sig .tc := ⟨.hbm, 142, rfl⟩
abbrev main_v91 : Ref sig .tc := ⟨.hbm, 143, rfl⟩
abbrev main_v92 : Ref sig .tc := ⟨.hbm, 144, rfl⟩
abbrev main_cst_13 : Ref sig .tc := ⟨.hbm, 145, rfl⟩
abbrev main_call2_v0 : Ref sig .tc := ⟨.hbm, 146, rfl⟩
abbrev main_call2_v1 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩

abbrev nD : Nat := 1
abbrev τ : Topo := Topo.v7x

variable {F : FTy → Type} [FloatOps F]
-- ==== Proof.WordsRun.lean ====
/-
  The kernel's body as it computes on words (or on any values), at each of its two kinds of points: it ends without fault and leaves
  its inputs' buffers as they were. Of the output's buffer and of the scratches nothing is said but that they are still owned: the
  frame needs no more. (What they hold, on extended reals, is in Proof/EmbedRun.lean and Proof/AttendRun.lean.)
-/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The body embeds at this point. -/
abbrev cond0_0 (i : grid0.Coords) : Prop := k0_cond1 i = 1#1
/-- The body embeds at the points 0 and 1. -/
theorem hcond0_0 : ∀ t : Fin cfg0.N, cond0_0 (grid0.coords t) ↔ t.val < 2 :=
  (by decide +kernel : ∀ t : Fin grid0.N, cond0_0 (grid0.coords t) ↔ t.val < 2)

/-- The body attends at this point. -/
abbrev cond0_1 (i : grid0.Coords) : Prop := k0_cond2 i = 1#1
/-- The body attends at the points 2 and 3. -/
theorem hcond0_1 : ∀ t : Fin cfg0.N, cond0_1 (grid0.coords t) ↔ 2 ≤ t.val :=
  (by decide +kernel : ∀ t : Fin grid0.N, cond0_1 (grid0.coords t) ↔ 2 ≤ t.val)

/-- No input's window is idle at any point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
/-! ## The body's operands -/

/-- The buffer that stages a window at a point, and that it is a whole buffer. -/
abbrev ms0_0 (t : Fin cfg0.N) : Memref sig .tc .vmem S1024x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S10x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1 .i32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2048 .i32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x512 .f32 := win0_15.stage (cfg0.slots t 15)
abbrev hs0_15 (t : Fin cfg0.N) : (ms0_15 t).IsWhole := hstage0_15 ((cfg0.slots t 15).cast nbuf0_15)
/-- The seven scratches, each a whole buffer. -/
abbrev scM0_0 : Memref sig .tc .vmem S2048x512 .f32 := Memref.whole cc0_scratch0
abbrev scM0_1 : Memref sig .tc .vmem S2048x512 .bf16 := Memref.whole cc0_scratch1
abbrev scM0_2 : Memref sig .tc .vmem S512x2048 .bf16 := Memref.whole cc0_scratch2
abbrev scM0_3 : Memref sig .tc .vmem S2048x1024 .bf16 := Memref.whole cc0_scratch3
abbrev scM0_4 : Memref sig .tc .vmem S2048x2048 .bf16 := Memref.whole cc0_scratch4
abbrev scM0_5 : Memref sig .tc .vmem S2048x1 .i32 := Memref.whole cc0_scratch5
abbrev scM0_6 : Memref sig .tc .vmem S1x2048 .i32 := Memref.whole cc0_scratch6

/-- What the launch keeps between points: each scratch at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## The two kinds of points -/

set_option maxHeartbeats 1000000 in
/-- A point of the first phase: from the inputs' buffers at their contents and the rest at any, the body ends with the inputs'
    buffers as they were and the rest at some contents. -/
theorem embed_run (c : Dev nD) (i : grid0.Coords) (arg1 : Memref sig .tc .vmem S1024x10 .f32) (harg1 : arg1.IsWhole) (arg2 : Memref sig .tc .vmem S1024x4 .f32) (harg2 : arg2.IsWhole) (arg3 : Memref sig .tc .vmem S10x2048 .f32) (harg3 : arg3.IsWhole) (arg4 : Memref sig .tc .vmem S4x2048 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S10x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1024x1 .i32) (harg14 : arg14.IsWhole) (arg15 : Memref sig .tc .vmem S1x2048 .i32) (harg15 : arg15.IsWhole) (arg16 : Memref sig .tc .vmem S1024x512 .f32) (harg16 : arg16.IsWhole) (arg17 : Memref sig .tc .vmem S2048x512 .f32) (harg17 : arg17.IsWhole) (arg18 : Memref sig .tc .vmem S2048x512 .bf16) (harg18 : arg18.IsWhole) (arg19 : Memref sig .tc .vmem S512x2048 .bf16) (harg19 : arg19.IsWhole) (arg20 : Memref sig .tc .vmem S2048x1024 .bf16) (harg20 : arg20.IsWhole) (arg21 : Memref sig .tc .vmem S2048x2048 .bf16) (harg21 : arg21.IsWhole) (arg22 : Memref sig .tc .vmem S2048x1 .i32) (harg22 : arg22.IsWhole) (arg23 : Memref sig .tc .vmem S1x2048 .i32) (harg23 : arg23.IsWhole) (hc0 : cond0_0 i) (hc1 : ¬cond0_1 i)
    (x0 : Vec F S1024x10 .f32) (x1 : Vec F S1024x4 .f32) (x2 : Vec F S10x2048 .f32) (x3 : Vec F S4x2048 .f32) (x4 : Vec F S4x512 .f32) (x5 : Vec F S1x512 .f32) (x6 : Vec F S1x512 .f32) (x7 : Vec F S1x512 .f32) (x8 : Vec F S10x512 .f32) (x9 : Vec F S512x512 .bf16) (x10 : Vec F S512x512 .bf16) (x11 : Vec F S512x512 .bf16) (x12 : Vec F S512x512 .bf16) (x13 : Vec F S1024x1 .i32) (x14 : Vec F S1x2048 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

set_option maxHeartbeats 1000000 in
/-- A point of the second phase, likewise. -/
theorem attend_run (c : Dev nD) (i : grid0.Coords) (arg1 : Memref sig .tc .vmem S1024x10 .f32) (harg1 : arg1.IsWhole) (arg2 : Memref sig .tc .vmem S1024x4 .f32) (harg2 : arg2.IsWhole) (arg3 : Memref sig .tc .vmem S10x2048 .f32) (harg3 : arg3.IsWhole) (arg4 : Memref sig .tc .vmem S4x2048 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S10x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1024x1 .i32) (harg14 : arg14.IsWhole) (arg15 : Memref sig .tc .vmem S1x2048 .i32) (harg15 : arg15.IsWhole) (arg16 : Memref sig .tc .vmem S1024x512 .f32) (harg16 : arg16.IsWhole) (arg17 : Memref sig .tc .vmem S2048x512 .f32) (harg17 : arg17.IsWhole) (arg18 : Memref sig .tc .vmem S2048x512 .bf16) (harg18 : arg18.IsWhole) (arg19 : Memref sig .tc .vmem S512x2048 .bf16) (harg19 : arg19.IsWhole) (arg20 : Memref sig .tc .vmem S2048x1024 .bf16) (harg20 : arg20.IsWhole) (arg21 : Memref sig .tc .vmem S2048x2048 .bf16) (harg21 : arg21.IsWhole) (arg22 : Memref sig .tc .vmem S2048x1 .i32) (harg22 : arg22.IsWhole) (arg23 : Memref sig .tc .vmem S1x2048 .i32) (harg23 : arg23.IsWhole) (hc0 : ¬cond0_0 i) (hc1 : cond0_1 i)
    (x0 : Vec F S1024x10 .f32) (x1 : Vec F S1024x4 .f32) (x2 : Vec F S10x2048 .f32) (x3 : Vec F S4x2048 .f32) (x4 : Vec F S4x512 .f32) (x5 : Vec F S1x512 .f32) (x6 : Vec F S1x512 .f32) (x7 : Vec F S1x512 .f32) (x8 : Vec F S10x512 .f32) (x9 : Vec F S512x512 .bf16) (x10 : Vec F S512x512 .bf16) (x11 : Vec F S512x512 .bf16) (x12 : Vec F S512x512 .bf16) (x13 : Vec F S1024x1 .i32) (x14 : Vec F S1x2048 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0__body_eq_skeleton]; unfold cc0__body_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Proof.Words

end
-- ==== Proof.WordsFrame.lean ====
/-
  The frame of the kernel on words: the program ends without fault, its arguments unchanged and every counter at zero. The launch's
  set-up and the reading of its end follow the generated frame's; the two runs of the body are in Proof/WordsRun.lean.
-/
module

public import proofs.«01_k».proof.Proof.WordsRun
public import Idealize.ShloMosaic.Lib.Claim

@[expose] public section

set_option maxRecDepth 16384

noncomputable section

namespace Cert.Proof.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments in the memory that the launch ends with: an array that a window reads is as the launch found it, and the others are
    not touched; the host operations before the launch write none of them. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 8 rfl).trans ((hA c 8).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The pipeline's proof data -/

/-- The output window: what the kernel leaves in it is not named here. -/
def forgets0 : Fin 16 → Bool := fun w => w.val == 15

/-- What the launch's proof tracks on a core: the arrays as the launch finds them; after a point, each input's buffer still at its
    block, the output's at contents without a name; between points the scratches at some contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

/-- The arrays are tracked from what the launch finds. -/
theorem A_eq (c : Dev nD) (w : Fin cfg0.W) : (dats m 0 c).A w = V m c (Pipeline.arrRef spec0 w) := by
  dsimp only [dats]

/-- A point leaves each input's buffer at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

/-- A point finds each input's buffer at its block, whether the block was copied in for this point or an earlier one. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What a point starts from, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d))

/-- What a point ends with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d))

set_option maxHeartbeats 4000000 in
/-- The body at any point: the point embeds or attends, and the run of that kind applies; the inputs' buffers come back as they
    were, the scratches and the output's buffer at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 4 := lt_of_lt_of_eq t.isLt (show cfg0.N = 4 from N_0)
  by_cases h0 : t.val < 2
  · by_cases h1 : 2 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((embed_run c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, H15, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · by_cases h1 : 2 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((attend_run c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, H15, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · exfalso; omega

/-- The launch calls the body with the point's buffers. -/
theorem defs₀_row (t : Fin cfg0.N) :
    defs₀ (F := F) .tc cfg0.body (cfg0.bodyArgs t (cfg0.slots t)) = bodyAt0 t := by
  unfold defs₀; rw [Defs.onTc_tc]

/-- The body meets the launch's demand at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole program: it ends, with the inputs' arrays as the launch found them and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The program ends with its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  args_of m ρ (fun c => (dats m 0 c).toRForget forgets0) (A_eq m) (run_main m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Proof.Words

end
-- ==== Proof.Blocks.lean ====
module

public import proofs.«01_k».proof.Proof.Gen.KernelIdeal.Skeleton
public import Idealize.ShloMosaic.Lib.VecWindow

@[expose] public section

noncomputable section

namespace Cert.Proof.Attn

open Idealize.ShloMosaic Idealize.ShloMosaic.TcCoe
open Cert.KernelIdeal Cert.KernelIdeal.Gen

variable {F : FTy → Type} [FloatOps F] [Named F]

/-! # What one grid point computes, as functions of the blocks it reads

The first two points of the grid fill the carried buffers (hidden state, queries, keys, values, mask bias, packed bits) for
1024 rows each; the last two read them and write 1024 rows of the result each. -/

/-- 1024 rows of the hidden state: the normalised, activated structural features plus the physical ones. -/
def hBlk (px : Vec F S1024x10 .f32) (sx : Vec F S1024x4 .f32) (Ws : Vec F S4x512 .f32) (bs gg bb : Vec F S1x512 .f32) (Wp : Vec F S10x512 .f32) :
    FVec F S1024x512 .f32 :=
  k0_pay10 px (k0_pay9 sx Ws bs gg bb) Wp (constant S1024x512 .f32 0x00000000#32)

/-- The same rows as they are stored (a cast of the shape to itself). -/
def hStored (px : Vec F S1024x10 .f32) (sx : Vec F S1024x4 .f32) (Ws : Vec F S4x512 .f32) (bs gg bb : Vec F S1x512 .f32) (Wp : Vec F S10x512 .f32) :
    FVec F S1024x512 .f32 :=
  k0_pay11 px (k0_pay9 sx Ws bs gg bb) Wp (constant S1024x512 .f32 0x00000000#32)

/-- The packed property bits of all 2048 atoms as keys, laid along a row. -/
def gkRow (pxT : Vec F S10x2048 .f32) (sxT : Vec F S4x2048 .f32) : IVec S1x2048 32 :=
  k0_pay16 (k0_pay13 (VecWindow.window pxT ![6, 0] S1x2048.size inb_S10x2048_S1x2048_6_0))
    (k0_pay14 (VecWindow.window pxT ![7, 0] S1x2048.size inb_S10x2048_S1x2048_7_0))
    (k0_pay15 (VecWindow.window sxT ![1, 0] S1x2048.size inb_S4x2048_S1x2048_1_0))

/-- Whether each of 1024 atoms has a partner at all, as a column of ones and zeros. -/
def anyBlk (px : Vec F S1024x10 .f32) (sx : Vec F S1024x4 .f32) (pxT : Vec F S10x2048 .f32) (sxT : Vec F S4x2048 .f32) (nc : Vec F S1024x1 .i32) (nr : Vec F S1x2048 .i32) :
    FVec F S1024x1 .f32 :=
  k0_pay18 (F := F) (k0_pay12 px sx) (gkRow pxT sxT) nc nr

/-- 1024 rows of the mask's bias. -/
def biasBlk (px : Vec F S1024x10 .f32) (sx : Vec F S1024x4 .f32) (pxT : Vec F S10x2048 .f32) (sxT : Vec F S4x2048 .f32) (nc : Vec F S1024x1 .i32) (nr : Vec F S1x2048 .i32) :
    FVec F S1024x2048 .bf16 :=
  k0_pay20 (k0_pay19 (F := F) (k0_pay12 px sx) (gkRow pxT sxT) nc nr)

/-- The values of 1024 rows put, head by head, into the 128 columns each head has: its 64 value columns, a one, and zeros. -/
def putV (i : grid0.Coords) (s : Vec F S2048x1024 .bf16) (h : FVec F S1024x512 .f32) (Wv : Vec F S512x512 .bf16) : Vec F S2048x1024 .bf16 :=
  let v := k0_pay24 h Wv
  let o := k0_pay25 (F := F)
  let z := k0_pay26 (F := F)
  VecWindow.put (VecWindow.put (VecWindow.put (VecWindow.put (VecWindow.put (VecWindow.put (VecWindow.put (VecWindow.put s
    (k0_off5 i) S1024x128.size (k0_pay27 h Wv)) (k0_off6 i) S1024x128.size (k0_pay1 o z (k0_pay28 h Wv)))
    (k0_off7 i) S1024x128.size (k0_pay2 v o z)) (k0_off8 i) S1024x128.size (k0_pay3 v o z))
    (k0_off9 i) S1024x128.size (k0_pay4 v o z)) (k0_off10 i) S1024x128.size (k0_pay5 v o z))
    (k0_off11 i) S1024x128.size (k0_pay6 v o z)) (k0_off12 i) S1024x128.size (k0_pay7 v o z)

/-- 1024 rows of the result, from the carried buffers' rows: the eight heads one after the other, projected, added to the hidden state. -/
def outBlk (h : Vec F S1024x512 .f32) (q : Vec F S1024x512 .bf16) (k : Vec F S512x2048 .bf16) (v : Vec F S2048x1024 .bf16) (b : Vec F S1024x2048 .bf16)
    (Wo : Vec F S512x512 .bf16) : FVec F S1024x512 .f32 :=
  k0_pay8
    (k0_pay38 q v
      (k0_pay29 q v (VecWindow.window k ![0, 0] S64x2048.size inb_S512x2048_S64x2048_0_0) b)
      (k0_pay30 q v (VecWindow.window k ![64, 0] S64x2048.size inb_S512x2048_S64x2048_64_0) b)
      (k0_pay33 v (k0_pay31 q (VecWindow.window k ![128, 0] S64x2048.size inb_S512x2048_S64x2048_128_0)) (k0_pay32 b))
      (k0_pay34 q v (VecWindow.window k ![192, 0] S64x2048.size inb_S512x2048_S64x2048_192_0) b)
      (k0_pay35 q v (VecWindow.window k ![256, 0] S64x2048.size inb_S512x2048_S64x2048_256_0) b)
      (k0_pay36 q (VecWindow.window k ![320, 0] S64x2048.size inb_S512x2048_S64x2048_320_0)) (k0_pay37 b)
      (VecWindow.window k ![384, 0] S64x2048.size inb_S512x2048_S64x2048_384_0) b
      (VecWindow.window k ![448, 0] S64x2048.size inb_S512x2048_S64x2048_448_0) b)
    h (k0_pay39 Wo) (constant S1024x512 .f32 0x00000000#32)

section Views

variable {sig' : RefSig} {κ : Kind} {sp : Space} {s : Shape} {e : EltTy} {Val : EltTy → Type}

/-- A load at a box reads the box's window of what the view reads. -/
theorem readAt_window (v : View sig' κ sp s e) (f : v.ty.Contents Val) {off size : Fin s.rank → ℕ} (inb : ∀ a, off a + size a ≤ s.size a) :
    v.readAt Val (Rect.unit off size inb).toLoadRect f = VecWindow.window (v.read Val f) off size inb :=
  View.readAt_unit v f inb rfl inb

/-- A store at a box, over earlier stores, leaves the payload put over the box. -/
theorem read_put (v : View sig' κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load the stores before it cover reads the box's window of what those stores leave. -/
theorem readCov_window [∀ e, Nonempty (Val e)] (v : View sig' κ sp s e) (L : List (View.Piece Val s e)) {off size : Fin s.rank → ℕ}
    (inb : ∀ a, off a + size a ≤ s.size a) :
    v.readCov L (Rect.unit off size inb).toLoadRect = VecWindow.window (v.read Val (v.writes Val v.junk L)) off size inb :=
  View.readAt_unit v _ inb rfl inb

/-- The window of a matrix that is all of it. -/
theorem window_whole {α : Type} {a b : ℕ} (x : Shape.Idx ⟨2, ![a, b]⟩ → α) (inb) :
    VecWindow.window (s := ⟨2, ![a, b]⟩) x ![0, 0] ![a, b] inb = x := by
  funext y
  exact congrArg x (funext fun k => Fin.ext (by
    fin_cases k
    · show 0 + 1 * (y 0).val = (y 0).val; omega
    · show 0 + 1 * (y 1).val = (y 1).val; omega))

/-- A put over all of a matrix leaves the payload. -/
theorem put_whole {α : Type} {a b : ℕ} (x : Shape.Idx ⟨2, ![a, b]⟩ → α) (w : ((k : Fin 2) → Fin ((![a, b] : Fin 2 → ℕ) k)) → α) :
    VecWindow.put (s := ⟨2, ![a, b]⟩) x ![0, 0] ![a, b] w = w := by
  have inb : ∀ k : Fin 2, (![0, 0] : Fin 2 → ℕ) k + (![a, b] : Fin 2 → ℕ) k ≤ (![a, b] : Fin 2 → ℕ) k := fun k => by fin_cases k <;> simp
  have := VecWindow.window_put_same (s := ⟨2, ![a, b]⟩) x ![0, 0] ![a, b] inb w
  rwa [window_whole] at this

end Views

end Cert.Proof.Attn

end
-- ==== Proof.EmbedRun.lean ====
module

public import proofs.«01_k».proof.Proof.Blocks
public import proofs.«01_k».proof.Proof.Gen.KernelIdeal.Frame

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A point of the first phase (1024 atoms embedded): it reads the inputs' blocks, leaves them and the output's buffer as they were,
    and puts its rows into each carried buffer. -/
theorem embed_run (c : Dev nD) (i : grid0.Coords) (arg1 : Memref sig .tc .vmem S1024x10 .f32) (harg1 : arg1.IsWhole) (arg2 : Memref sig .tc .vmem S1024x4 .f32) (harg2 : arg2.IsWhole) (arg3 : Memref sig .tc .vmem S10x2048 .f32) (harg3 : arg3.IsWhole) (arg4 : Memref sig .tc .vmem S4x2048 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S10x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1024x1 .i32) (harg14 : arg14.IsWhole) (arg15 : Memref sig .tc .vmem S1x2048 .i32) (harg15 : arg15.IsWhole) (arg16 : Memref sig .tc .vmem S1024x512 .f32) (harg16 : arg16.IsWhole) (arg17 : Memref sig .tc .vmem S2048x512 .f32) (harg17 : arg17.IsWhole) (arg18 : Memref sig .tc .vmem S2048x512 .bf16) (harg18 : arg18.IsWhole) (arg19 : Memref sig .tc .vmem S512x2048 .bf16) (harg19 : arg19.IsWhole) (arg20 : Memref sig .tc .vmem S2048x1024 .bf16) (harg20 : arg20.IsWhole) (arg21 : Memref sig .tc .vmem S2048x2048 .bf16) (harg21 : arg21.IsWhole) (arg22 : Memref sig .tc .vmem S2048x1 .i32) (harg22 : arg22.IsWhole) (arg23 : Memref sig .tc .vmem S1x2048 .i32) (harg23 : arg23.IsWhole) (hc0 : k0_cond1 i = 1#1) (hc1 : ¬k0_cond2 i = 1#1)
    (x0 : Vec F S1024x10 .f32) (x1 : Vec F S1024x4 .f32) (x2 : Vec F S10x2048 .f32) (x3 : Vec F S4x2048 .f32) (x4 : Vec F S4x512 .f32) (x5 : Vec F S1x512 .f32) (x6 : Vec F S1x512 .f32) (x7 : Vec F S1x512 .f32) (x8 : Vec F S10x512 .f32) (x9 : Vec F S512x512 .bf16) (x10 : Vec F S512x512 .bf16) (x11 : Vec F S512x512 .bf16) (x12 : Vec F S512x512 .bf16) (x13 : Vec F S1024x1 .i32) (x14 : Vec F S1x2048 .i32)
    (d : Vec F S1024x512 .f32) (s0 : Vec F S2048x512 .f32) (s1 : Vec F S2048x512 .bf16) (s2 : Vec F S512x2048 .bf16) (s3 : Vec F S2048x1024 .bf16) (s4 : Vec F S2048x2048 .bf16) (s5 : Vec F S2048x1 .i32) (s6 : Vec F S1x2048 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d ∗ owns (c : Thread nD τ) arg17 fullShare s0 ∗ owns (c : Thread nD τ) arg18 fullShare s1 ∗ owns (c : Thread nD τ) arg19 fullShare s2 ∗ owns (c : Thread nD τ) arg20 fullShare s3 ∗ owns (c : Thread nD τ) arg21 fullShare s4 ∗ owns (c : Thread nD τ) arg22 fullShare s5 ∗ owns (c : Thread nD τ) arg23 fullShare s6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d ∗ owns (c : Thread nD τ) arg17 fullShare (VecWindow.put s0 (k0_off1 i) S1024x512.size (hStored x0 x1 x4 x5 x6 x7 x8)) ∗ owns (c : Thread nD τ) arg18 fullShare (VecWindow.put s1 (k0_off1 i) S1024x512.size (k0_pay22 (hBlk x0 x1 x4 x5 x6 x7 x8) (anyBlk x0 x1 x2 x3 x13 x14) x9)) ∗ owns (c : Thread nD τ) arg19 fullShare (VecWindow.put s2 (k0_off4 i) S512x1024.size (k0_pay23 (hBlk x0 x1 x4 x5 x6 x7 x8) x10)) ∗ owns (c : Thread nD τ) arg20 fullShare (putV i s3 (hBlk x0 x1 x4 x5 x6 x7 x8) x11) ∗ owns (c : Thread nD τ) arg21 fullShare (VecWindow.put s4 (k0_off3 i) S1024x2048.size (biasBlk x0 x1 x2 x3 x13 x14)) ∗ owns (c : Thread nD τ) arg22 fullShare (VecWindow.put s5 (k0_off2 i) S1024x1.size (k0_pay12 x0 x1)) ∗ owns (c : Thread nD τ) arg23 fullShare (gkRow x2 x3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro
      sl_unfold_run_names
      simp only [read_put, View.writes_nil, readAt_window, readCov_window, window_whole, put_whole, VecWindow.window_put_same, Memref.IsWhole.read_unread]
      rfl

    isplitl [H17]
    · iexists _; isplitr; swap; · iexact H17
      ipureintro
      sl_unfold_run_names
      simp only [read_put, View.writes_nil, readAt_window, readCov_window, window_whole, put_whole, VecWindow.window_put_same, Memref.IsWhole.read_unread]
      rfl

    isplitl [H18]
    · iexists _; isplitr; swap; · iexact H18
      ipureintro
      sl_unfold_run_names
      simp only [read_put, View.writes_nil, readAt_window, readCov_window, window_whole, put_whole, VecWindow.window_put_same, Memref.IsWhole.read_unread]
      rfl

    isplitl [H19]
    · iexists _; isplitr; swap; · iexact H19
      ipureintro
      sl_unfold_run_names
      simp only [read_put, View.writes_nil, readAt_window, readCov_window, window_whole, put_whole, VecWindow.window_put_same, Memref.IsWhole.read_unread]
      rfl

    isplitl [H20]
    · iexists _; isplitr; swap; · iexact H20
      ipureintro
      sl_unfold_run_names
      simp only [read_put, View.writes_nil, readAt_window, readCov_window, window_whole, put_whole, VecWindow.window_put_same, Memref.IsWhole.read_unread]
      rfl

    isplitl [H21]
    · iexists _; isplitr; swap; · iexact H21
      ipureintro
      sl_unfold_run_names
      simp only [read_put, View.writes_nil, readAt_window, readCov_window, window_whole, put_whole, VecWindow.window_put_same, Memref.IsWhole.read_unread]

    iexists _; isplitr; swap; · iexact H22
    ipureintro
    sl_unfold_run_names
    simp only [read_put, View.writes_nil, readAt_window, readCov_window, window_whole, put_whole, VecWindow.window_put_same, Memref.IsWhole.read_unread]
    rfl

end Cert.Proof.Attn

end
-- ==== Proof.AttendRun.lean ====
module

public import proofs.«01_k».proof.Proof.Blocks
public import proofs.«01_k».proof.Proof.Gen.KernelIdeal.Frame

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A point of the second phase (1024 atoms attended): it reads the carried buffers, leaves them as they were, and writes its 1024 rows of the result. -/
theorem attend_run (c : Dev nD) (i : grid0.Coords) (arg1 : Memref sig .tc .vmem S1024x10 .f32) (harg1 : arg1.IsWhole) (arg2 : Memref sig .tc .vmem S1024x4 .f32) (harg2 : arg2.IsWhole) (arg3 : Memref sig .tc .vmem S10x2048 .f32) (harg3 : arg3.IsWhole) (arg4 : Memref sig .tc .vmem S4x2048 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S10x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1024x1 .i32) (harg14 : arg14.IsWhole) (arg15 : Memref sig .tc .vmem S1x2048 .i32) (harg15 : arg15.IsWhole) (arg16 : Memref sig .tc .vmem S1024x512 .f32) (harg16 : arg16.IsWhole) (arg17 : Memref sig .tc .vmem S2048x512 .f32) (harg17 : arg17.IsWhole) (arg18 : Memref sig .tc .vmem S2048x512 .bf16) (harg18 : arg18.IsWhole) (arg19 : Memref sig .tc .vmem S512x2048 .bf16) (harg19 : arg19.IsWhole) (arg20 : Memref sig .tc .vmem S2048x1024 .bf16) (harg20 : arg20.IsWhole) (arg21 : Memref sig .tc .vmem S2048x2048 .bf16) (harg21 : arg21.IsWhole) (arg22 : Memref sig .tc .vmem S2048x1 .i32) (harg22 : arg22.IsWhole) (arg23 : Memref sig .tc .vmem S1x2048 .i32) (harg23 : arg23.IsWhole) (hc0 : ¬k0_cond1 i = 1#1) (hc1 : k0_cond2 i = 1#1)
    (x0 : Vec F S1024x10 .f32) (x1 : Vec F S1024x4 .f32) (x2 : Vec F S10x2048 .f32) (x3 : Vec F S4x2048 .f32) (x4 : Vec F S4x512 .f32) (x5 : Vec F S1x512 .f32) (x6 : Vec F S1x512 .f32) (x7 : Vec F S1x512 .f32) (x8 : Vec F S10x512 .f32) (x9 : Vec F S512x512 .bf16) (x10 : Vec F S512x512 .bf16) (x11 : Vec F S512x512 .bf16) (x12 : Vec F S512x512 .bf16) (x13 : Vec F S1024x1 .i32) (x14 : Vec F S1x2048 .i32)
    (d : Vec F S1024x512 .f32) (s0 : Vec F S2048x512 .f32) (s1 : Vec F S2048x512 .bf16) (s2 : Vec F S512x2048 .bf16) (s3 : Vec F S2048x1024 .bf16) (s4 : Vec F S2048x2048 .bf16) (s5 : Vec F S2048x1 .i32) (s6 : Vec F S1x2048 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d ∗ owns (c : Thread nD τ) arg17 fullShare s0 ∗ owns (c : Thread nD τ) arg18 fullShare s1 ∗ owns (c : Thread nD τ) arg19 fullShare s2 ∗ owns (c : Thread nD τ) arg20 fullShare s3 ∗ owns (c : Thread nD τ) arg21 fullShare s4 ∗ owns (c : Thread nD τ) arg22 fullShare s5 ∗ owns (c : Thread nD τ) arg23 fullShare s6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outBlk (VecWindow.window s0 (k0_off13 i) S1024x512.size (k0_off13_inb i hc1)) (VecWindow.window s1 (k0_off13 i) S1024x512.size (k0_off13_inb i hc1)) s2 s3 (VecWindow.window s4 (k0_off14 i) S1024x2048.size (k0_off14_inb i hc1)) x12) ∗ owns (c : Thread nD τ) arg17 fullShare s0 ∗ owns (c : Thread nD τ) arg18 fullShare s1 ∗ owns (c : Thread nD τ) arg19 fullShare s2 ∗ owns (c : Thread nD τ) arg20 fullShare s3 ∗ owns (c : Thread nD τ) arg21 fullShare s4 ∗ owns (c : Thread nD τ) arg22 fullShare s5 ∗ owns (c : Thread nD τ) arg23 fullShare s6) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0__body_eq_skeleton]; unfold cc0__body_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro
      sl_unfold_run_names
      simp only [read_put, View.writes_nil, readAt_window, readCov_window, window_whole, put_whole, VecWindow.window_put_same, Memref.IsWhole.read_unread]
      rfl

    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    iexists _; isplitr; · ipureintro; exact harg23.read_unread _
    iexact H22

end Cert.Proof.Attn

end
-- ==== Proof.Spec.lean ====
module

public import Idealize.ShloMosaic.Lib.IdealHost

@[expose] public section

noncomputable section

namespace Cert.Proof.Attn

open Idealize.ShloMosaic

/-! # The layer as plain formulas over the extended reals

Everything is indexed by atom and feature. The part up to the hidden state and the three projections is the same in both
programs; the attention is written twice, once the way each program computes it. -/

/-- The inputs, read by row and column. -/
structure Inp where
  P : Fin 2048 → Fin 10 → EReal
  S : Fin 2048 → Fin 4 → EReal
  Ws : Fin 4 → Fin 512 → EReal
  bs : Fin 512 → EReal
  g : Fin 512 → EReal
  b : Fin 512 → EReal
  Wp : Fin 10 → Fin 512 → EReal
  Wq : Fin 512 → Fin 512 → EReal
  Wk : Fin 512 → Fin 512 → EReal
  Wv : Fin 512 → Fin 512 → EReal
  Wo : Fin 512 → Fin 512 → EReal
  ids : Fin 2048 → BitVec 32

/-! ## Hidden state -/

/-- The number of features, as the programs hold it. -/
def width : EReal := Ideal.ofBits .f32 0x44000000#32

/-- The guard added to the variance. -/
def guard : EReal := Ideal.ofBits .f32 0x3727C5AC#32

/-- The structural features of one atom through their linear map. -/
def lin (s : Fin 4 → EReal) (Ws : Fin 4 → Fin 512 → EReal) (bs : Fin 512 → EReal) (j : Fin 512) : EReal :=
  (∑ k, s k * Ws k j) + bs j

/-- The mean of a row. -/
def mean (x : Fin 512 → EReal) : EReal := Ideal.div (∑ j, x j) width

/-- The variance of a row. -/
def variance (x : Fin 512 → EReal) : EReal := Ideal.div (∑ j, (x j - mean x) * (x j - mean x)) width

/-- A row normalised, scaled and shifted. -/
def normed (x g b : Fin 512 → EReal) (j : Fin 512) : EReal :=
  Ideal.div (x j - mean x) (Ideal.sqrt (variance x + guard)) * g j + b j

/-- One atom's hidden state from its two feature rows. -/
def hidRow (p : Fin 10 → EReal) (s : Fin 4 → EReal) (Ws : Fin 4 → Fin 512 → EReal) (bs g b : Fin 512 → EReal)
    (Wp : Fin 10 → Fin 512 → EReal) (j : Fin 512) : EReal :=
  normed (lin s Ws bs) g b j * Ideal.logistic (normed (lin s Ws bs) g b j) + ∑ k, p k * Wp k j

/-- The hidden state. -/
def hid (X : Inp) (r : Fin 2048) (j : Fin 512) : EReal := hidRow (X.P r) (X.S r) X.Ws X.bs X.g X.b X.Wp j

/-- A row through a square matrix. -/
def proj (h : Fin 512 → EReal) (W : Fin 512 → Fin 512 → EReal) (j : Fin 512) : EReal := ∑ c, h c * W c j

/-! ## Which atoms may attend to which -/

/-- Atom `r` may attend to atom `m`: a donor with an acceptor, or two aromatic ones, of different molecules. -/
def pairs (X : Inp) (r m : Fin 2048) : Prop :=
  ((0 < X.P r 6 ∧ 0 < X.P m 7 ∨ 0 < X.P r 7 ∧ 0 < X.P m 6) ∨ 0 < X.S r 1 ∧ 0 < X.S m 1) ∧ X.ids r ≠ X.ids m

/-- Atom `r` has at least one partner. -/
def partnered (X : Inp) (r : Fin 2048) : Prop := ∃ m, pairs X r m

open Classical in
/-- One for an atom with a partner, zero otherwise. -/
def anyOne (X : Inp) (r : Fin 2048) : EReal := if partnered X r then 1 else 0

/-! ## The attention as the kernel computes it -/

/-- The scale of the exponents of two, which the kernel folds into the queries. -/
def qScale : EReal := (((8 * Real.log 2)⁻¹ : ℝ) : EReal)

/-- The kernel's queries. -/
def kQ (X : Inp) (r : Fin 2048) (j : Fin 512) : EReal := proj (hid X r) X.Wq j * (qScale * anyOne X r)

/-- The keys. -/
def kK (X : Inp) (r : Fin 2048) (j : Fin 512) : EReal := proj (hid X r) X.Wk j

/-- The values. -/
def kV (X : Inp) (r : Fin 2048) (j : Fin 512) : EReal := proj (hid X r) X.Wv j

/-- The values laid out with 128 columns a head: 64 values, a one, zeros. -/
def kVAug (X : Inp) (m : Fin 2048) (hd : Fin 8) (e : Fin 128) : EReal :=
  if h : e.val < 64 then kV X m ⟨64 * hd.val + e.val, by omega⟩ else if e.val = 64 then 1 else 0

open Classical in
/-- The kernel's mask bias. -/
def kBias (X : Inp) (r m : Fin 2048) : EReal := if pairs X r m then 0 else ⊥ * anyOne X r

/-- The kernel's unnormalised weight, for queries, keys and bias given. -/
def kWeight (q : Fin 512 → EReal) (k : Fin 512 → Fin 2048 → EReal) (b : Fin 2048 → EReal) (hd : Fin 8) (m : Fin 2048) : EReal :=
  Ideal.exp2 ((∑ e : Fin 64, q ⟨64 * hd.val + e.val, by omega⟩ * k ⟨64 * hd.val + e.val, by omega⟩ m) + b m)

/-- One head's context: weighted values over the sum of the weights, both read off the widened values. -/
def kCtxH (q : Fin 512 → EReal) (k : Fin 512 → Fin 2048 → EReal) (v : Fin 2048 → Fin 1024 → EReal) (b : Fin 2048 → EReal)
    (hd : Fin 8) (e : Fin 64) : EReal :=
  Ideal.div (∑ m, kWeight q k b hd m * v m ⟨128 * hd.val + e.val, by omega⟩)
    (∑ m, kWeight q k b hd m * v m ⟨128 * hd.val + 64, by omega⟩)

/-- One row of the kernel's result. -/
def kOutRow (h q : Fin 512 → EReal) (k : Fin 512 → Fin 2048 → EReal) (v : Fin 2048 → Fin 1024 → EReal) (b : Fin 2048 → EReal)
    (Wo : Fin 512 → Fin 512 → EReal) (j : Fin 512) : EReal :=
  h j + ∑ c : Fin 512, kCtxH q k v b ⟨c.val / 64, by omega⟩ ⟨c.val % 64, by omega⟩ * Wo c j

/-- The widened values by column. -/
def kVCol (X : Inp) (m : Fin 2048) (c : Fin 1024) : EReal := kVAug X m ⟨c.val / 128, by omega⟩ ⟨c.val % 128, by omega⟩

/-- The kernel's result. -/
def kOut (X : Inp) (r : Fin 2048) (j : Fin 512) : EReal :=
  kOutRow (hid X r) (kQ X r) (fun c m => kK X m c) (kVCol X) (kBias X r) X.Wo j

/-! ## The attention as the reference states it -/

/-- The square root of a head's width. -/
def eight : EReal := Ideal.ofBits .f32 0x41000000#32

open Classical in
/-- The masked score. -/
def rScore (X : Inp) (hd : Fin 8) (r m : Fin 2048) : EReal :=
  if pairs X r m then
    Ideal.div (∑ e : Fin 64, proj (hid X r) X.Wq ⟨64 * hd.val + e.val, by omega⟩ * proj (hid X m) X.Wk ⟨64 * hd.val + e.val, by omega⟩) eight
  else ⊥

/-- The largest score of a row. -/
def rMax (X : Inp) (hd : Fin 8) (r : Fin 2048) : EReal := Finset.univ.fold max ⊥ fun m => rScore X hd r m

/-- The exponential of a score less the largest. -/
def rExp (X : Inp) (hd : Fin 8) (r m : Fin 2048) : EReal := Ideal.exp (rScore X hd r m - rMax X hd r)

open Classical in
/-- The attention weight: the softmax of the row, and the uniform weight where the atom has no partner. -/
def rAtt (X : Inp) (hd : Fin 8) (r m : Fin 2048) : EReal :=
  if partnered X r then Ideal.div (rExp X hd r m) (∑ m', rExp X hd r m') else Ideal.ofBits .f32 0x3A000000#32

/-- The reference's result. -/
def rOut (X : Inp) (r : Fin 2048) (j : Fin 512) : EReal :=
  hid X r j + ∑ c : Fin 512, (∑ m, rAtt X ⟨c.val / 64, by omega⟩ r m * kV X m c) * X.Wo c j

end Cert.Proof.Attn

end
-- ==== Proof.RowMax.lean ====
module

public import Idealize.ShloMosaic.Lib.Pointwise
public import Idealize.ShloMosaic.Lib.KernelVsHost

@[expose] public section

set_option maxRecDepth 16384

noncomputable section

namespace Cert.Proof.Attn

open Idealize.ShloMosaic Idealize.ShloMosaic.TcCoe Idealize.ShloMosaic.Tactic

/-! # Row maxima over the extended reals -/

/-- The bit pattern of minus infinity. -/
theorem negInf : Ideal.ofBits .f32 0xFF800000#32 = ⊥ := by simp [Ideal.ofBits, Ideal.ieee]

/-- A maximum along the rows of a matrix, written as the kernel writes it, is the largest of each row. -/
theorem rowMax_apply {a b : ℕ} (x : FVec Ideal ⟨2, ![a, b]⟩ .f32) (h : Shape.Reduces ⟨2, ![a, b]⟩ [1] ⟨1, ![a]⟩) (hφ : FKind.Formats .f32)
    (hacc : 0xFF800000#32 = FKind.maximumf.neutral .f32 hφ) (r : Fin a) :
    multiReduction .maximumf [1] ⟨1, ![a]⟩ x 0xFF800000#32 h hφ hacc (ix1 r) = Finset.univ.fold max ⊥ fun m => x (ix2 r m) := by
  rw [Ideal.multiReduction_maximumf_single]
  rw [← negInf]
  refine congrArg (fun f => Finset.univ.fold max _ f) (funext fun m => congrArg x ?_)
  funext d
  fin_cases d <;> rfl

/-- A maximum along the last axis, written as the host writes it, is the largest of each row. -/
theorem hostRowMax_apply {a b c : ℕ} (x : FVec Ideal ⟨3, ![a, b, c]⟩ .f32) (h : Shape.Reduces ⟨3, ![a, b, c]⟩ [2] ⟨2, ![a, b]⟩)
    (h' : Shape.ReducesTo ⟨3, ![a, b, c]⟩ [2] ⟨2, ![a, b]⟩) {u : Shape} (hu : 0 < u.numel) (i : Fin a) (r : Fin b) :
    Host.reduce FloatOps.maximumf x (constant u .f32 0xFF800000#32) h' hu (ix2 i r) = Finset.univ.fold max ⊥ fun m => x (ix3 i r m) := by
  refine (congrFun (hostReduce_maximumf_eq_multiReduction x 0xFF800000#32 h' hu h (.inl rfl) rfl) _).trans ?_
  refine (Ideal.multiReduction_maximumf_single x _ _ _ _ _).trans ?_
  rw [← negInf]
  refine congrArg (fun f => Finset.univ.fold max _ f) (funext fun m => congrArg x ?_)
  funext d
  fin_cases d <;> rfl

end Cert.Proof.Attn

end
-- ==== Proof.MaskVals.lean ====
module

public import proofs.«01_k».proof.Proof.Blocks
public import proofs.«01_k».proof.Proof.Spec
public import proofs.«01_k».proof.Proof.RowMax

@[expose] public section

set_option maxRecDepth 16384

noncomputable section

namespace Cert.Proof.Attn

open Idealize.ShloMosaic Idealize.ShloMosaic.TcCoe Idealize.ShloMosaic.Tactic
open Cert.KernelIdeal Cert.KernelIdeal.Gen

/-! # The mask, element by element

The kernel packs each atom's three properties into the low bits of an integer, the key's pattern permuted so that a donor
meets an acceptor, and tests whether the two share a bit. -/

/-- Two packed patterns share a bit exactly when a donor meets an acceptor, an acceptor a donor, or two aromatic atoms meet. -/
theorem packed_meet (d a t d' a' t' : Bool) :
    IntOp.cmpi .ne (IntOp.andi
      (IntOp.addi (IntOp.addi (BitVec.setWidth 32 (BitVec.ofBool d)) (IntOp.muli 2#32 (BitVec.setWidth 32 (BitVec.ofBool a))))
        (IntOp.muli 4#32 (BitVec.setWidth 32 (BitVec.ofBool t))))
      (IntOp.addi (IntOp.addi (IntOp.muli 2#32 (BitVec.setWidth 32 (BitVec.ofBool d'))) (BitVec.setWidth 32 (BitVec.ofBool a')))
        (IntOp.muli 4#32 (BitVec.setWidth 32 (BitVec.ofBool t'))))) 0#32
      = BitVec.ofBool ((d && a' || a && d') || t && t') := by
  cases d <;> cases a <;> cases t <;> cases d' <;> cases a' <;> cases t' <;> rfl

/-- The mask bit at a pair, from the packed patterns and the molecules' numbers. -/
theorem maskBlk_apply (a : Vec Ideal S1024x1 .i32) (b : Vec Ideal S1x2048 .i32) (n : Vec Ideal S1024x1 .i32) (n' : Vec Ideal S1x2048 .i32)
    (r : Fin 1024) (m : Fin 2048) :
    k0_pay17 (F := Ideal) a b n n' (ix2 r m) =
      IntOp.andi (IntOp.cmpi .ne (IntOp.andi (a (ix2 r 0)) (b (ix2 0 m))) 0#32) (IntOp.cmpi .ne (n (ix2 r 0)) (n' (ix2 0 m))) := by
  pointwise [k0_pay17]

/-- An atom's packed pattern as a query. -/
theorem fqBlk_apply (px : Vec Ideal S1024x10 .f32) (sx : Vec Ideal S1024x4 .f32) (r : Fin 1024) :
    k0_pay12 px sx (ix2 r 0) =
      IntOp.addi (IntOp.addi (BitVec.setWidth 32 (BitVec.ofBool (decide (0 < px (ix2 r 6)))))
          (IntOp.muli 2#32 (BitVec.setWidth 32 (BitVec.ofBool (decide (0 < px (ix2 r 7)))))))
        (IntOp.muli 4#32 (BitVec.setWidth 32 (BitVec.ofBool (decide (0 < sx (ix2 r 1)))))) := by
  pointwise [k0_pay12]

/-- One row of a transposed array, as a window of it. -/
theorem window_row {α : Type} {a b : ℕ} (x : Shape.Idx ⟨2, ![a, b]⟩ → α) (o : Fin a) (inb) (m : Fin b) :
    VecWindow.window (s := ⟨2, ![a, b]⟩) x ![o.val, 0] ![1, b] inb (ix2 0 m) = x (ix2 o m) :=
  congrArg x (funext fun k => Fin.ext (by
    fin_cases k
    · show o.val + 1 * 0 = o.val; omega
    · show 0 + 1 * m.val = m.val; omega))

/-- An atom's packed pattern as a key. -/
theorem gkRow_apply (pxT : Vec Ideal S10x2048 .f32) (sxT : Vec Ideal S4x2048 .f32) (m : Fin 2048) :
    gkRow pxT sxT (ix2 0 m) =
      IntOp.addi (IntOp.addi (IntOp.muli 2#32 (BitVec.setWidth 32 (BitVec.ofBool (decide (0 < pxT (ix2 6 m))))))
          (BitVec.setWidth 32 (BitVec.ofBool (decide (0 < pxT (ix2 7 m))))))
        (IntOp.muli 4#32 (BitVec.setWidth 32 (BitVec.ofBool (decide (0 < sxT (ix2 1 m)))))) := by
  have h6 := window_row pxT (6 : Fin 10) inb_S10x2048_S1x2048_6_0 m
  have h7 := window_row pxT (7 : Fin 10) inb_S10x2048_S1x2048_7_0 m
  have h1 := window_row sxT (1 : Fin 4) inb_S4x2048_S1x2048_1_0 m
  rw [← h6, ← h7, ← h1]
  pointwise [gkRow, k0_pay16, k0_pay13, k0_pay14, k0_pay15]

/-- A column of signs as numbers. -/
theorem signCol_apply (M : FVec Ideal S1024 .f32) (r : Fin 1024) :
    sitofp .f32 (extui 32 (shapeCast S1024x1 (cmpf .ogt M (broadcast S1024 (Scalar.ofBits (F := Ideal) .f32 0x00000000#32))) shapeCasts_S1024_S1024x1)
      natLt_1_32) (ix2 r 0) = FloatOps.sitofp (F := Ideal) .f32 (BitVec.setWidth 32 (BitVec.ofBool (decide (0 < M (ix1 r))))) := by
  pointwise

open Classical in
/-- The column that tells whether an atom has a partner. -/
theorem anyCol_apply (a : Vec Ideal S1024x1 .i32) (b : Vec Ideal S1x2048 .i32) (n : Vec Ideal S1024x1 .i32) (n' : Vec Ideal S1x2048 .i32) (r : Fin 1024) :
    k0_pay18 (F := Ideal) a b n n' (ix2 r 0) = if ∃ m, k0_pay17 (F := Ideal) a b n n' (ix2 r m) = 1#1 then 1 else 0 := by
  have key : (0 < Finset.univ.fold max ⊥ fun x : Fin 2048 => Scalar.select (k0_pay17 (F := Ideal) a b n n' (ix2 r x)) (1 : EReal) 0)
      ↔ ∃ m, k0_pay17 (F := Ideal) a b n n' (ix2 r m) = 1#1 := by
    rw [Finset.lt_fold_max]
    constructor
    · rintro (h | ⟨m, -, h⟩)
      · exact absurd h (by simp)
      · refine ⟨m, ?_⟩
        by_contra hne
        rw [Scalar.select] at h
        erw [if_neg hne] at h
        exact lt_irrefl _ h
    · rintro ⟨m, hm⟩
      refine Or.inr ⟨m, Finset.mem_univ _, ?_⟩
      rw [Scalar.select]
      erw [if_pos hm]
      exact zero_lt_one
  have e : k0_pay18 (F := Ideal) a b n n' (ix2 r 0) = FloatOps.sitofp (F := Ideal) .f32 (BitVec.setWidth 32 (BitVec.ofBool (decide
      (0 < Finset.univ.fold max ⊥ fun x : Fin 2048 => Scalar.select (k0_pay17 (F := Ideal) a b n n' (ix2 r x)) (1 : EReal) 0)))) := by
    have hsel : ∀ m, select (k0_pay17 (F := Ideal) a b n n') (broadcast S1024x2048 (Scalar.ofBits (F := Ideal) .f32 0x3F800000#32))
        (broadcast S1024x2048 (Scalar.ofBits (F := Ideal) .f32 0x00000000#32)) (ix2 r m)
          = Scalar.select (k0_pay17 (F := Ideal) a b n n' (ix2 r m)) (1 : EReal) 0 := by
      intro m
      pointwise
    have hmax := rowMax_apply (select (k0_pay17 (F := Ideal) a b n n') (broadcast S1024x2048 (Scalar.ofBits (F := Ideal) .f32 0x3F800000#32))
        (broadcast S1024x2048 (Scalar.ofBits (F := Ideal) .f32 0x00000000#32))) reduces_S1024x2048_S1024 (.inl rfl) rfl r
    simp only [hsel] at hmax
    refine (signCol_apply _ r).trans ?_
    rw [hmax]
  rw [e]
  by_cases h : ∃ m, k0_pay17 (F := Ideal) a b n n' (ix2 r m) = 1#1
  · rw [if_pos h, decide_eq_true (key.2 h)]
    show (((BitVec.setWidth 32 (BitVec.ofBool true)).toInt : ℝ) : EReal) = 1
    rw [show (BitVec.setWidth 32 (BitVec.ofBool true)).toInt = 1 from by decide]
    simp
  · rw [if_neg h, decide_eq_false (fun h' => h (key.1 h'))]
    show (((BitVec.setWidth 32 (BitVec.ofBool false)).toInt : ℝ) : EReal) = 0
    rw [show (BitVec.setWidth 32 (BitVec.ofBool false)).toInt = 0 from by decide]
    simp

/-- The bias at a pair. -/
theorem biasCol_apply (a : Vec Ideal S1024x1 .i32) (b : Vec Ideal S1x2048 .i32) (n : Vec Ideal S1024x1 .i32) (n' : Vec Ideal S1x2048 .i32)
    (r : Fin 1024) (m : Fin 2048) :
    k0_pay20 (k0_pay19 (F := Ideal) a b n n') (ix2 r m) =
      Scalar.select (k0_pay17 (F := Ideal) a b n n' (ix2 r m)) 0 (⊥ * k0_pay18 (F := Ideal) a b n n' (ix2 r 0)) := by
  pointwise [k0_pay20, k0_pay19]
  rfl

section Pairs

variable (px : Vec Ideal S1024x10 .f32) (sx : Vec Ideal S1024x4 .f32) (pxT : Vec Ideal S10x2048 .f32) (sxT : Vec Ideal S4x2048 .f32)
  (n : Vec Ideal S1024x1 .i32) (n' : Vec Ideal S1x2048 .i32)

/-- The blocks a point of the first phase reads are rows of the inputs (and all of their transposes). -/
structure Rows (X : Inp) (R : Fin 1024 → Fin 2048) : Prop where
  p : ∀ r k, px (ix2 r k) = X.P (R r) k
  s : ∀ r k, sx (ix2 r k) = X.S (R r) k
  pT : ∀ k m, pxT (ix2 k m) = X.P m k
  sT : ∀ k m, sxT (ix2 k m) = X.S m k
  idc : ∀ r, n (ix2 r 0) = X.ids (R r)
  idr : ∀ m, n' (ix2 0 m) = X.ids m

variable {px sx pxT sxT n n'} {X : Inp} {R : Fin 1024 → Fin 2048}

/-- The mask bit is set exactly at the pairs that may attend. -/
theorem Rows.mask (H : Rows px sx pxT sxT n n' X R) (r : Fin 1024) (m : Fin 2048) :
    k0_pay17 (F := Ideal) (k0_pay12 px sx) (gkRow pxT sxT) n n' (ix2 r m) = 1#1 ↔ pairs X (R r) m := by
  rw [maskBlk_apply, fqBlk_apply, gkRow_apply, packed_meet, H.p, H.p, H.s, H.pT, H.pT, H.sT, H.idc, H.idr]
  have hand : ∀ p q : Bool, IntOp.andi (BitVec.ofBool p) (BitVec.ofBool q) = 1#1 ↔ (p = true ∧ q = true) := by decide
  have hne : IntOp.cmpi .ne (X.ids (R r)) (X.ids m) = BitVec.ofBool (decide (X.ids (R r) ≠ X.ids m)) := by
    show BitVec.ofBool (!(X.ids (R r) == X.ids m)) = _
    rw [decide_not]
    rfl
  rw [hne, hand]
  simp only [Bool.or_eq_true, Bool.and_eq_true, decide_eq_true_eq]
  rfl

open Classical in
/-- The column of ones and zeros at an atom. -/
theorem Rows.any (H : Rows px sx pxT sxT n n' X R) (r : Fin 1024) : anyBlk px sx pxT sxT n n' (ix2 r 0) = anyOne X (R r) := by
  unfold anyBlk anyOne
  rw [anyCol_apply]
  exact if_congr (exists_congr fun m => H.mask r m) rfl rfl

open Classical in
/-- The bias at a pair. -/
theorem Rows.bias (H : Rows px sx pxT sxT n n' X R) (r : Fin 1024) (m : Fin 2048) : biasBlk px sx pxT sxT n n' (ix2 r m) = kBias X (R r) m := by
  have ha := H.any r
  unfold anyBlk at ha
  unfold biasBlk kBias
  rw [biasCol_apply, ha, Scalar.select]
  exact if_congr (H.mask r m) rfl rfl

end Pairs

end Cert.Proof.Attn

end
-- ==== Proof.Inputs.lean ====
module

public import proofs.«01_k».proof.Proof.Gen.KernelIdeal.Frame
public import proofs.«01_k».proof.Proof.MaskVals
public import proofs.«01_k».proof.Proof.Spec
public import Idealize.ShloMosaic.Lib.Pointwise
public import Idealize.ShloMosaic.Lib.Pipeline.Value

@[expose] public section

set_option maxRecDepth 16384

noncomputable section

namespace Cert.Proof.Attn

open Idealize.ShloMosaic Idealize.ShloMosaic.TcCoe Idealize.ShloMosaic.Tactic
open Cert.KernelIdeal Cert.KernelIdeal.Gen

/-! # What the windows of the one launch show of the arguments -/

variable (m : (ℓ : Loc nD τ sig) → Buf (Elt Ideal) ℓ) (c : Dev nD)

/-- The kernel's inputs, by row and column. -/
def kInp : Inp where
  P r k := (m ((c.tc : Thread nD τ).loc main_arg0) : Vec Ideal S2048x10 .f32) (ix2 r k)
  S r k := (m ((c.tc : Thread nD τ).loc main_arg1) : Vec Ideal S2048x4 .f32) (ix2 r k)
  Ws k j := (m ((c.tc : Thread nD τ).loc main_arg2) : Vec Ideal S4x512 .f32) (ix2 k j)
  bs j := (m ((c.tc : Thread nD τ).loc main_arg3) : Vec Ideal S512 .f32) (ix1 j)
  g j := (m ((c.tc : Thread nD τ).loc main_arg4) : Vec Ideal S512 .f32) (ix1 j)
  b j := (m ((c.tc : Thread nD τ).loc main_arg5) : Vec Ideal S512 .f32) (ix1 j)
  Wp k j := (m ((c.tc : Thread nD τ).loc main_arg6) : Vec Ideal S10x512 .f32) (ix2 k j)
  Wq k j := (m ((c.tc : Thread nD τ).loc main_arg7) : Vec Ideal S512x512 .f32) (ix2 k j)
  Wk k j := (m ((c.tc : Thread nD τ).loc main_arg8) : Vec Ideal S512x512 .f32) (ix2 k j)
  Wv k j := (m ((c.tc : Thread nD τ).loc main_arg9) : Vec Ideal S512x512 .f32) (ix2 k j)
  Wo k j := (m ((c.tc : Thread nD τ).loc main_arg10) : Vec Ideal S512x512 .f32) (ix2 k j)
  ids r := (m ((c.tc : Thread nD τ).loc main_arg11) : Vec Ideal S2048 .i32) (ix1 r)

/-- An array two-dimensional, read by its coordinates. -/
theorem read_at {α : Type} {a b : ℕ} (x : Shape.Idx ⟨2, ![a, b]⟩ → α) (y : Shape.Idx ⟨2, ![a, b]⟩) (i : Fin a) (j : Fin b)
    (h0 : (y 0).val = i.val) (h1 : (y 1).val = j.val) : x y = x (ix2 i j) :=
  congrArg x (funext fun d => Fin.ext (by
    fin_cases d
    · exact h0
    · exact h1))

variable (t : Fin cfg0.N)

/-- The blocks the first phase moves along. -/
theorem steps (t : Fin grid0.N) (h : t.val < 2) : win0_0.index t 0 = t.val ∧ win0_1.index t 0 = t.val ∧ win0_13.index t 0 = t.val :=
  (by decide +kernel : ∀ t : Fin grid0.N, t.val < 2 → win0_0.index t 0 = t.val ∧ win0_1.index t 0 = t.val ∧ win0_13.index t 0 = t.val) t h

/-- Window 0 at a point of the first phase: 1024 rows of its array. -/
theorem iblk0_at (h : t.val < 2) (r : Fin 1024) (k : Fin 10) :
    (iblk m c 0 t : Vec Ideal S1024x10 .f32) (ix2 r k) = V m c main_arg0 (ix2 ⟨t.val * 1024 + r.val, by omega⟩ k) :=
 by
  unfold iblk
  generalize V m c = Y
  exact read_at (Y main_arg0) ((win0_0.rect t).emb (ix2 r k)) ⟨t.val * 1024 + r.val, by omega⟩ k
    ((win0_0.rect_emb_val t (ix2 r k) 0).trans (by rw [(steps t h).1]; rfl))
    (win0_0.rect_emb_val_of_index_zero t 1 rfl (ix2 r k))

/-- Window 1 at a point of the first phase: 1024 rows of its array. -/
theorem iblk1_at (h : t.val < 2) (r : Fin 1024) (k : Fin 4) :
    (iblk m c 1 t : Vec Ideal S1024x4 .f32) (ix2 r k) = V m c main_arg1 (ix2 ⟨t.val * 1024 + r.val, by omega⟩ k) :=
 by
  unfold iblk
  generalize V m c = Y
  exact read_at (Y main_arg1) ((win0_1.rect t).emb (ix2 r k)) ⟨t.val * 1024 + r.val, by omega⟩ k
    ((win0_1.rect_emb_val t (ix2 r k) 0).trans (by rw [(steps t h).2.1]; rfl))
    (win0_1.rect_emb_val_of_index_zero t 1 rfl (ix2 r k))

/-- Window 13 at a point of the first phase: 1024 rows of its array. -/
theorem iblk13_at (h : t.val < 2) (r : Fin 1024) (k : Fin 1) :
    (iblk m c 13 t : Vec Ideal S1024x1 .i32) (ix2 r k) = V m c main_v0 (ix2 ⟨t.val * 1024 + r.val, by omega⟩ k) :=
 by
  unfold iblk
  generalize V m c = Y
  exact read_at (Y main_v0) ((win0_13.rect t).emb (ix2 r k)) ⟨t.val * 1024 + r.val, by omega⟩ k
    ((win0_13.rect_emb_val t (ix2 r k) 0).trans (by rw [(steps t h).2.2]; rfl))
    (win0_13.rect_emb_val_of_index_zero t 1 rfl (ix2 r k))

/-- Window 2: all of its array. -/
theorem iblk2_at (k : Fin 10) (j : Fin 2048) : (iblk m c 2 t : Vec Ideal S10x2048 .f32) (ix2 k j) = V m c main_v2 (ix2 k j) := by
  unfold iblk
  generalize V m c = Y
  exact read_at (Y main_v2) ((win0_2.rect t).emb (ix2 k j)) k j (win0_2.rect_emb_val_of_index_zero t 0 rfl (ix2 k j)) (win0_2.rect_emb_val_of_index_zero t 1 rfl (ix2 k j))

/-- Window 3: all of its array. -/
theorem iblk3_at (k : Fin 4) (j : Fin 2048) : (iblk m c 3 t : Vec Ideal S4x2048 .f32) (ix2 k j) = V m c main_v3 (ix2 k j) := by
  unfold iblk
  generalize V m c = Y
  exact read_at (Y main_v3) ((win0_3.rect t).emb (ix2 k j)) k j (win0_3.rect_emb_val_of_index_zero t 0 rfl (ix2 k j)) (win0_3.rect_emb_val_of_index_zero t 1 rfl (ix2 k j))

/-- Window 4: all of its array. -/
theorem iblk4_at (k : Fin 4) (j : Fin 512) : (iblk m c 4 t : Vec Ideal S4x512 .f32) (ix2 k j) = V m c main_arg2 (ix2 k j) := by
  unfold iblk
  generalize V m c = Y
  exact read_at (Y main_arg2) ((win0_4.rect t).emb (ix2 k j)) k j (win0_4.rect_emb_val_of_index_zero t 0 rfl (ix2 k j)) (win0_4.rect_emb_val_of_index_zero t 1 rfl (ix2 k j))

/-- Window 5: all of its array. -/
theorem iblk5_at (k : Fin 1) (j : Fin 512) : (iblk m c 5 t : Vec Ideal S1x512 .f32) (ix2 k j) = V m c main_v4 (ix2 k j) := by
  unfold iblk
  generalize V m c = Y
  exact read_at (Y main_v4) ((win0_5.rect t).emb (ix2 k j)) k j (win0_5.rect_emb_val_of_index_zero t 0 rfl (ix2 k j)) (win0_5.rect_emb_val_of_index_zero t 1 rfl (ix2 k j))

/-- Window 6: all of its array. -/
theorem iblk6_at (k : Fin 1) (j : Fin 512) : (iblk m c 6 t : Vec Ideal S1x512 .f32) (ix2 k j) = V m c main_v5 (ix2 k j) := by
  unfold iblk
  generalize V m c = Y
  exact read_at (Y main_v5) ((win0_6.rect t).emb (ix2 k j)) k j (win0_6.rect_emb_val_of_index_zero t 0 rfl (ix2 k j)) (win0_6.rect_emb_val_of_index_zero t 1 rfl (ix2 k j))

/-- Window 7: all of its array. -/
theorem iblk7_at (k : Fin 1) (j : Fin 512) : (iblk m c 7 t : Vec Ideal S1x512 .f32) (ix2 k j) = V m c main_v6 (ix2 k j) := by
  unfold iblk
  generalize V m c = Y
  exact read_at (Y main_v6) ((win0_7.rect t).emb (ix2 k j)) k j (win0_7.rect_emb_val_of_index_zero t 0 rfl (ix2 k j)) (win0_7.rect_emb_val_of_index_zero t 1 rfl (ix2 k j))

/-- Window 8: all of its array. -/
theorem iblk8_at (k : Fin 10) (j : Fin 512) : (iblk m c 8 t : Vec Ideal S10x512 .f32) (ix2 k j) = V m c main_arg6 (ix2 k j) := by
  unfold iblk
  generalize V m c = Y
  exact read_at (Y main_arg6) ((win0_8.rect t).emb (ix2 k j)) k j (win0_8.rect_emb_val_of_index_zero t 0 rfl (ix2 k j)) (win0_8.rect_emb_val_of_index_zero t 1 rfl (ix2 k j))

/-- Window 9: all of its array. -/
theorem iblk9_at (k : Fin 512) (j : Fin 512) : (iblk m c 9 t : Vec Ideal S512x512 .bf16) (ix2 k j) = V m c main_v7 (ix2 k j) := by
  unfold iblk
  generalize V m c = Y
  exact read_at (Y main_v7) ((win0_9.rect t).emb (ix2 k j)) k j (win0_9.rect_emb_val_of_index_zero t 0 rfl (ix2 k j)) (win0_9.rect_emb_val_of_index_zero t 1 rfl (ix2 k j))

/-- Window 10: all of its array. -/
theorem iblk10_at (k : Fin 512) (j : Fin 512) : (iblk m c 10 t : Vec Ideal S512x512 .bf16) (ix2 k j) = V m c main_v8 (ix2 k j) := by
  unfold iblk
  generalize V m c = Y
  exact read_at (Y main_v8) ((win0_10.rect t).emb (ix2 k j)) k j (win0_10.rect_emb_val_of_index_zero t 0 rfl (ix2 k j)) (win0_10.rect_emb_val_of_index_zero t 1 rfl (ix2 k j))

/-- Window 11: all of its array. -/
theorem iblk11_at (k : Fin 512) (j : Fin 512) : (iblk m c 11 t : Vec Ideal S512x512 .bf16) (ix2 k j) = V m c main_v9 (ix2 k j) := by
  unfold iblk
  generalize V m c = Y
  exact read_at (Y main_v9) ((win0_11.rect t).emb (ix2 k j)) k j (win0_11.rect_emb_val_of_index_zero t 0 rfl (ix2 k j)) (win0_11.rect_emb_val_of_index_zero t 1 rfl (ix2 k j))

/-- Window 12: all of its array. -/
theorem iblk12_at (k : Fin 512) (j : Fin 512) : (iblk m c 12 t : Vec Ideal S512x512 .bf16) (ix2 k j) = V m c main_v10 (ix2 k j) := by
  unfold iblk
  generalize V m c = Y
  exact read_at (Y main_v10) ((win0_12.rect t).emb (ix2 k j)) k j (win0_12.rect_emb_val_of_index_zero t 0 rfl (ix2 k j)) (win0_12.rect_emb_val_of_index_zero t 1 rfl (ix2 k j))

/-- Window 14: all of its array. -/
theorem iblk14_at (k : Fin 1) (j : Fin 2048) : (iblk m c 14 t : Vec Ideal S1x2048 .i32) (ix2 k j) = V m c main_v1 (ix2 k j) := by
  unfold iblk
  generalize V m c = Y
  exact read_at (Y main_v1) ((win0_14.rect t).emb (ix2 k j)) k j (win0_14.rect_emb_val_of_index_zero t 0 rfl (ix2 k j)) (win0_14.rect_emb_val_of_index_zero t 1 rfl (ix2 k j))

/-! ## The arrays the host prepares -/

/-- A column of molecule numbers. -/
theorem V_v0_at (r : Fin 2048) : (V m c main_v0 : Vec Ideal S2048x1 .i32) (ix2 r 0) = (kInp m c).ids r := by
  show (shapeCast S2048x1 (m ((c.tc : Thread nD τ).loc main_arg11) : Vec Ideal S2048 .i32) shapeCasts_S2048_S2048x1 : Vec Ideal S2048x1 .i32) (ix2 r 0) = _
  unfold kInp
  dsimp only
  generalize (m ((c.tc : Thread nD τ).loc main_arg11) : Vec Ideal S2048 .i32) = x
  pointwise

/-- A row of molecule numbers. -/
theorem V_v1_at (r : Fin 2048) : (V m c main_v1 : Vec Ideal S1x2048 .i32) (ix2 0 r) = (kInp m c).ids r := by
  show (shapeCast S1x2048 (m ((c.tc : Thread nD τ).loc main_arg11) : Vec Ideal S2048 .i32) shapeCasts_S2048_S1x2048 : Vec Ideal S1x2048 .i32) (ix2 0 r) = _
  unfold kInp
  dsimp only
  generalize (m ((c.tc : Thread nD τ).loc main_arg11) : Vec Ideal S2048 .i32) = x
  pointwise

/-- The transposed physical features. -/
theorem V_v2_at (k : Fin 10) (r : Fin 2048) : (V m c main_v2 : Vec Ideal S10x2048 .f32) (ix2 k r) = (kInp m c).P r k := by
  show (transpose S10x2048 [1, 0] (m ((c.tc : Thread nD τ).loc main_arg0) : Vec Ideal S2048x10 .f32) transposes_S2048x10_S10x2048_1_0 : Vec Ideal S10x2048 .f32) (ix2 k r) = _
  unfold kInp
  dsimp only
  generalize (m ((c.tc : Thread nD τ).loc main_arg0) : Vec Ideal S2048x10 .f32) = x
  pointwise

/-- The transposed structural features. -/
theorem V_v3_at (k : Fin 4) (r : Fin 2048) : (V m c main_v3 : Vec Ideal S4x2048 .f32) (ix2 k r) = (kInp m c).S r k := by
  show (transpose S4x2048 [1, 0] (m ((c.tc : Thread nD τ).loc main_arg1) : Vec Ideal S2048x4 .f32) transposes_S2048x4_S4x2048_1_0 : Vec Ideal S4x2048 .f32) (ix2 k r) = _
  unfold kInp
  dsimp only
  generalize (m ((c.tc : Thread nD τ).loc main_arg1) : Vec Ideal S2048x4 .f32) = x
  pointwise

/-- A vector laid along a row. -/
theorem row_at (x : Vec Ideal S512 .f32) (j : Fin 512) : (shapeCast S1x512 x shapeCasts_S512_S1x512 : Vec Ideal S1x512 .f32) (ix2 0 j) = x (ix1 j) := by
  pointwise

/-! ## The blocks of a point, together -/

/-- The blocks that a point of the first phase reads are rows of the inputs, their transposes and the weights. -/
structure Shows (X : Inp) (R : Fin 1024 → Fin 2048) (x0 : Vec Ideal S1024x10 .f32) (x1 : Vec Ideal S1024x4 .f32) (x2 : Vec Ideal S10x2048 .f32)
    (x3 : Vec Ideal S4x2048 .f32) (x4 : Vec Ideal S4x512 .f32) (x5 x6 x7 : Vec Ideal S1x512 .f32) (x8 : Vec Ideal S10x512 .f32)
    (x9 x10 x11 : Vec Ideal S512x512 .bf16) (x13 : Vec Ideal S1024x1 .i32) (x14 : Vec Ideal S1x2048 .i32) : Prop where
  rows : Rows x0 x1 x2 x3 x13 x14 X R
  ws : ∀ k j, x4 (ix2 k j) = X.Ws k j
  bs : ∀ j, x5 (ix2 0 j) = X.bs j
  g : ∀ j, x6 (ix2 0 j) = X.g j
  b : ∀ j, x7 (ix2 0 j) = X.b j
  wp : ∀ k j, x8 (ix2 k j) = X.Wp k j
  wq : ∀ k j, x9 (ix2 k j) = X.Wq k j
  wk : ∀ k j, x10 (ix2 k j) = X.Wk k j
  wv : ∀ k j, x11 (ix2 k j) = X.Wv k j

/-- The launch's blocks are. -/
theorem shows_iblk (h : t.val < 2) : Shows (kInp m c) (fun r => ⟨t.val * 1024 + r.val, by omega⟩) (iblk m c 0 t) (iblk m c 1 t) (iblk m c 2 t)
    (iblk m c 3 t) (iblk m c 4 t) (iblk m c 5 t) (iblk m c 6 t) (iblk m c 7 t) (iblk m c 8 t) (iblk m c 9 t) (iblk m c 10 t) (iblk m c 11 t)
    (iblk m c 13 t) (iblk m c 14 t) where
  rows :=
    { p := fun r k => (iblk0_at m c t h r k).trans (congrFun (V_main_arg0 m c) _)
      s := fun r k => (iblk1_at m c t h r k).trans (congrFun (V_main_arg1 m c) _)
      pT := fun k r => (iblk2_at m c t k r).trans (V_v2_at m c k r)
      sT := fun k r => (iblk3_at m c t k r).trans (V_v3_at m c k r)
      idc := fun r => (iblk13_at m c t h r 0).trans (V_v0_at m c _)
      idr := fun r => (iblk14_at m c t 0 r).trans (V_v1_at m c r) }
  ws k j := (iblk4_at m c t k j).trans (congrFun (V_main_arg2 m c) _)
  bs j := (iblk5_at m c t 0 j).trans (row_at (m ((c.tc : Thread nD τ).loc main_arg3)) j)
  g j := (iblk6_at m c t 0 j).trans (row_at (m ((c.tc : Thread nD τ).loc main_arg4)) j)
  b j := (iblk7_at m c t 0 j).trans (row_at (m ((c.tc : Thread nD τ).loc main_arg5)) j)
  wp k j := (iblk8_at m c t k j).trans (congrFun (V_main_arg6 m c) _)
  wq k j := iblk9_at m c t k j
  wk k j := iblk10_at m c t k j
  wv k j := iblk11_at m c t k j

/-- The last projection's block is its matrix. -/
theorem wo_iblk (k j : Fin 512) : (iblk m c 12 t : Vec Ideal S512x512 .bf16) (ix2 k j) = (kInp m c).Wo k j := iblk12_at m c t k j

end Cert.Proof.Attn

end
-- ==== Proof.HiddenVals.lean ====
module

public import proofs.«01_k».proof.Proof.Blocks
public import proofs.«01_k».proof.Proof.Spec
public import Idealize.ShloMosaic.Lib.Pointwise

@[expose] public section

set_option maxRecDepth 16384

noncomputable section

namespace Cert.Proof.Attn

open Idealize.ShloMosaic Idealize.ShloMosaic.TcCoe Idealize.ShloMosaic.Tactic
open Cert.KernelIdeal Cert.KernelIdeal.Gen

/-! # What the blocks' computations hold, element by element, over the extended reals: the hidden state and its projections -/

/-- A row of the hidden state. -/
theorem hBlk_apply (px : Vec Ideal S1024x10 .f32) (sx : Vec Ideal S1024x4 .f32) (Ws : Vec Ideal S4x512 .f32) (bs gg bb : Vec Ideal S1x512 .f32)
    (Wp : Vec Ideal S10x512 .f32) (r : Fin 1024) (j : Fin 512) :
    hBlk px sx Ws bs gg bb Wp (ix2 r j) =
      hidRow (fun k => px (ix2 r k)) (fun k => sx (ix2 r k)) (fun k j => Ws (ix2 k j)) (fun j => bs (ix2 0 j)) (fun j => gg (ix2 0 j))
        (fun j => bb (ix2 0 j)) (fun k j => Wp (ix2 k j)) j := by
  pointwise [hBlk, k0_pay10, k0_pay9]
  rfl

/-- The stored rows are those rows. -/
theorem hStored_apply (px : Vec Ideal S1024x10 .f32) (sx : Vec Ideal S1024x4 .f32) (Ws : Vec Ideal S4x512 .f32) (bs gg bb : Vec Ideal S1x512 .f32)
    (Wp : Vec Ideal S10x512 .f32) (r : Fin 1024) (j : Fin 512) :
    hStored px sx Ws bs gg bb Wp (ix2 r j) = hBlk px sx Ws bs gg bb Wp (ix2 r j) := by
  pointwise [hStored, k0_pay11, hBlk]

/-- The queries' rows, scaled. -/
theorem qBlk_apply (h : FVec Ideal S1024x512 .f32) (y : FVec Ideal S1024x1 .f32) (W : Vec Ideal S512x512 .bf16) (r : Fin 1024) (j : Fin 512) :
    k0_pay22 h y W (ix2 r j) = proj (fun c => h (ix2 r c)) (fun c j => W (ix2 c j)) j * (qScale * y (ix2 r 0)) := by
  pointwise [k0_pay22, k0_pay21]
  rfl

/-- The keys' rows, transposed. -/
theorem kBlk_apply (h : FVec Ideal S1024x512 .f32) (W : Vec Ideal S512x512 .bf16) (r : Fin 1024) (j : Fin 512) :
    k0_pay23 h W (ix2 j r) = proj (fun c => h (ix2 r c)) (fun c j => W (ix2 c j)) j := by
  pointwise [k0_pay23, k0_pay21]
  rfl

/-- The values' rows. -/
theorem vBlk_apply (h : FVec Ideal S1024x512 .f32) (W : Vec Ideal S512x512 .bf16) (r : Fin 1024) (j : Fin 512) :
    k0_pay24 h W (ix2 r j) = proj (fun c => h (ix2 r c)) (fun c j => W (ix2 c j)) j := by
  pointwise [k0_pay24, k0_pay21]
  rfl

end Cert.Proof.Attn

end
-- ==== Proof.Layout.lean ====
module

public import proofs.«01_k».proof.Proof.Blocks
public import proofs.«01_k».proof.Proof.Spec
public import proofs.«01_k».proof.Proof.HiddenVals
public import Idealize.ShloMosaic.Lib.Pointwise
public import Idealize.ShloMosaic.Lib.IdealHost

@[expose] public section

set_option maxRecDepth 16384

noncomputable section

namespace Cert.Proof.Attn

open Idealize.ShloMosaic Idealize.ShloMosaic.TcCoe Idealize.ShloMosaic.Tactic
open Cert.KernelIdeal Cert.KernelIdeal.Gen

/-! # Where the blocks of one point lie in the carried buffers -/

section Puts

variable {α : Type} {a b n p : ℕ}

/-- A put into a matrix, at an index inside. -/
theorem put_in (x : Shape.Idx ⟨2, ![a, b]⟩ → α) (o o' : ℕ) (w : ((k : Fin 2) → Fin ((![n, p] : Fin 2 → ℕ) k)) → α) (i : Fin n) (j : Fin p)
    (hi : o + i.val < a) (hj : o' + j.val < b) :
    VecWindow.put (s := ⟨2, ![a, b]⟩) x ![o, o'] ![n, p] w (ix2 ⟨o + i.val, hi⟩ ⟨o' + j.val, hj⟩) = w (ix2 i j) := by
  unfold VecWindow.put
  have h : ∀ k : Fin 2, (![o, o'] : Fin 2 → ℕ) k ≤ ((ix2 (⟨o + i.val, hi⟩ : Fin a) (⟨o' + j.val, hj⟩ : Fin b) : Shape.Idx ⟨2, ![a, b]⟩) k).val
      ∧ ((ix2 (⟨o + i.val, hi⟩ : Fin a) (⟨o' + j.val, hj⟩ : Fin b) : Shape.Idx ⟨2, ![a, b]⟩) k).val < (![o, o'] : Fin 2 → ℕ) k + (![n, p] : Fin 2 → ℕ) k := by
    intro k
    fin_cases k
    · show o ≤ o + i.val ∧ o + i.val < o + n
      omega
    · show o' ≤ o' + j.val ∧ o' + j.val < o' + p
      omega
  rw [dif_pos h]
  refine congrArg w (funext fun k => Fin.ext ?_)
  fin_cases k
  · show o + i.val - o = i.val
    omega
  · show o' + j.val - o' = j.val
    omega

/-- A put into a matrix, at an index outside. -/
theorem put_out (x : Shape.Idx ⟨2, ![a, b]⟩ → α) (o o' : ℕ) (w : ((k : Fin 2) → Fin ((![n, p] : Fin 2 → ℕ) k)) → α) (i : Fin a) (j : Fin b)
    (h : ¬((o ≤ i.val ∧ i.val < o + n) ∧ o' ≤ j.val ∧ j.val < o' + p)) :
    VecWindow.put (s := ⟨2, ![a, b]⟩) x ![o, o'] ![n, p] w (ix2 i j) = x (ix2 i j) := by
  unfold VecWindow.put
  exact dif_neg fun h' => h ⟨h' 0, h' 1⟩

/-- Rows already right, and the next ones put. -/
theorem put_rows (x : Shape.Idx ⟨2, ![a, b]⟩ → α) (f : Fin a → Fin b → α) (o : ℕ) (w : ((k : Fin 2) → Fin ((![n, b] : Fin 2 → ℕ) k)) → α)
    (hx : ∀ i j, i.val < o → x (ix2 i j) = f i j) (hw : ∀ (i : Fin n) j (hi : o + i.val < a), w (ix2 i j) = f ⟨o + i.val, hi⟩ j)
    (i : Fin a) (j : Fin b) (hi : i.val < o + n) : VecWindow.put (s := ⟨2, ![a, b]⟩) x ![o, 0] ![n, b] w (ix2 i j) = f i j := by
  by_cases h : i.val < o
  · rw [put_out x o 0 w i j (by omega)]
    exact hx i j h
  · obtain ⟨i', hi', rfl⟩ : ∃ (i' : Fin n) (hi' : o + i'.val < a), i = ⟨o + i'.val, hi'⟩ :=
      ⟨⟨i.val - o, by omega⟩, by show o + (i.val - o) < a; omega, Fin.ext (by show _ = o + (i.val - o); omega)⟩
    have hj : (⟨0 + j.val, by omega⟩ : Fin b) = j := Fin.ext (by show 0 + j.val = j.val; omega)
    have := put_in x o 0 w i' j (by omega) (by omega)
    rw [hj] at this
    rw [this]
    exact hw i' j _

/-- Columns already right, and the next ones put. -/
theorem put_cols (x : Shape.Idx ⟨2, ![a, b]⟩ → α) (f : Fin a → Fin b → α) (o : ℕ) (w : ((k : Fin 2) → Fin ((![a, n] : Fin 2 → ℕ) k)) → α)
    (hx : ∀ i j, j.val < o → x (ix2 i j) = f i j) (hw : ∀ i (j : Fin n) (hj : o + j.val < b), w (ix2 i j) = f i ⟨o + j.val, hj⟩)
    (i : Fin a) (j : Fin b) (hj : j.val < o + n) : VecWindow.put (s := ⟨2, ![a, b]⟩) x ![0, o] ![a, n] w (ix2 i j) = f i j := by
  by_cases h : j.val < o
  · rw [put_out x 0 o w i j (by omega)]
    exact hx i j h
  · obtain ⟨j', hj', rfl⟩ : ∃ (j' : Fin n) (hj' : o + j'.val < b), j = ⟨o + j'.val, hj'⟩ :=
      ⟨⟨j.val - o, by omega⟩, by show o + (j.val - o) < b; omega, Fin.ext (by show _ = o + (j.val - o); omega)⟩
    have hi : (⟨0 + i.val, by omega⟩ : Fin a) = i := Fin.ext (by show 0 + i.val = i.val; omega)
    have := put_in x 0 o w i j' (by omega) (by omega)
    rw [hi] at this
    rw [this]
    exact hw i j' _

/-- Rows already right, and of the next ones the columns below `o'`; then the next columns put. -/
theorem put_step (x : Shape.Idx ⟨2, ![a, b]⟩ → α) (f : Fin a → Fin b → α) (o o' : ℕ) (w : ((k : Fin 2) → Fin ((![n, p] : Fin 2 → ℕ) k)) → α)
    (hx : ∀ i j, (i.val < o ∨ i.val < o + n ∧ j.val < o') → x (ix2 i j) = f i j)
    (hw : ∀ (i : Fin n) (j : Fin p) (hi : o + i.val < a) (hj : o' + j.val < b), w (ix2 i j) = f ⟨o + i.val, hi⟩ ⟨o' + j.val, hj⟩)
    (i : Fin a) (j : Fin b) (h : i.val < o ∨ i.val < o + n ∧ j.val < o' + p) :
    VecWindow.put (s := ⟨2, ![a, b]⟩) x ![o, o'] ![n, p] w (ix2 i j) = f i j := by
  by_cases h' : i.val < o ∨ i.val < o + n ∧ j.val < o'
  · rw [put_out x o o' w i j (by omega)]
    exact hx i j h'
  · obtain ⟨i', hi', rfl⟩ : ∃ (i' : Fin n) (hi' : o + i'.val < a), i = ⟨o + i'.val, hi'⟩ :=
      ⟨⟨i.val - o, by omega⟩, by show o + (i.val - o) < a; omega, Fin.ext (by show _ = o + (i.val - o); omega)⟩
    obtain ⟨j', hj', rfl⟩ : ∃ (j' : Fin p) (hj' : o' + j'.val < b), j = ⟨o' + j'.val, hj'⟩ :=
      ⟨⟨j.val - o', by omega⟩, by show o' + (j.val - o') < b; omega, Fin.ext (by show _ = o' + (j.val - o'); omega)⟩
    rw [put_in x o o' w i' j' _ _]
    exact hw i' j' _ _

end Puts

/-! ## The widened values -/

/-- One row of one head's 128 columns: its 64 values, a one, zeros. -/
def widened (v : FVec Ideal S1024x512 .bf16) (r : Fin 1024) (hd : Fin 8) (e : Fin 128) : EReal :=
  if h : e.val < 64 then v (ix2 r ⟨64 * hd.val + e.val, by omega⟩) else if e.val = 64 then 1 else 0

/-- The value one. -/
theorem one16 : Ideal.ofBits .bf16 0x3F80#16 = 1 := by
  simp [Ideal.ofBits, Ideal.ieee]
  try rw [← EReal.coe_mul]
  try norm_num

/-- Three pieces side by side: 64 columns, one, and 63. -/
theorem join_apply (x : FVec Ideal S1024x64 .bf16) (r : Fin 1024) (e : Fin 128) :
    concatenate S1024x128 1 [⟨S1024x64, x⟩, ⟨S1024x1, k0_pay25 (F := Ideal)⟩, ⟨S1024x63, k0_pay26 (F := Ideal)⟩]
      concatenates_S1024x64_S1024x1_S1024x63_S1024x128_d1 (ix2 r e)
        = if h : e.val < 64 then x (ix2 r ⟨e.val, h⟩) else if e.val = 64 then 1 else 0 := by
  rw [← one16]
  pointwise [k0_pay25, k0_pay26]
  by_cases h : e.val < 64
  · simp only [dif_pos h]
  · by_cases h' : e.val = 64
    · simp [h']
    · simp [h, h', show ¬ (e.val - 64 < 1) from by omega]

variable (h : FVec Ideal S1024x512 .f32) (W : Vec Ideal S512x512 .bf16) (v : FVec Ideal S1024x512 .bf16) (r : Fin 1024) (e : Fin 128)

/-- A head's 64 columns with the one and the zeros are that head's 128 columns. -/
theorem widened_of (hd : Fin 8) (x : FVec Ideal S1024x64 .bf16) (hx : ∀ e : Fin 64, x (ix2 r e) = v (ix2 r ⟨64 * hd.val + e.val, by omega⟩)) :
    concatenate S1024x128 1 [⟨S1024x64, x⟩, ⟨S1024x1, k0_pay25 (F := Ideal)⟩, ⟨S1024x63, k0_pay26 (F := Ideal)⟩]
      concatenates_S1024x64_S1024x1_S1024x63_S1024x128_d1 (ix2 r e) = widened v r hd e := by
  rw [join_apply]
  unfold widened
  split
  · exact hx _
  · rfl

/-- The columns of one head, cut out of the values, as they are stored. -/
theorem sliced_wide (o : ℕ) (hs : Shape.Slices S1024x512 ![0, o] S1024x64) (hd : Fin 8) (ho : o = 64 * hd.val) :
    shapeCast S1024x128 (concatenate S1024x128 1 [⟨S1024x64, extractStridedSlice S1024x64 ![0, o] v hs⟩, ⟨S1024x1, k0_pay25 (F := Ideal)⟩,
      ⟨S1024x63, k0_pay26 (F := Ideal)⟩] concatenates_S1024x64_S1024x1_S1024x63_S1024x128_d1) shapeCasts_S1024x128_S1024x128 (ix2 r e) = widened v r hd e := by
  subst ho
  refine Eq.trans ?_ (widened_of v r e hd (extractStridedSlice S1024x64 ![0, 64 * hd.val] v hs) fun e => ?_)
  · generalize concatenate S1024x128 1 [⟨S1024x64, extractStridedSlice S1024x64 ![0, 64 * hd.val] v hs⟩, ⟨S1024x1, k0_pay25 (F := Ideal)⟩,
      ⟨S1024x63, k0_pay26 (F := Ideal)⟩] concatenates_S1024x64_S1024x1_S1024x63_S1024x128_d1 = x
    pointwise
  · refine congrArg v (funext fun k => Fin.ext ?_)
    fin_cases k
    · show 0 + r.val = r.val
      omega
    · rfl

/-- Where each point of the first phase puts the columns of each head. -/
theorem offV (t : Fin grid0.N) : k0_off5 (grid0.coords t) = ![t.val * 1024, 128 * 0] ∧ k0_off6 (grid0.coords t) = ![t.val * 1024, 128 * 1]
    ∧ k0_off7 (grid0.coords t) = ![t.val * 1024, 128 * 2] ∧ k0_off8 (grid0.coords t) = ![t.val * 1024, 128 * 3]
    ∧ k0_off9 (grid0.coords t) = ![t.val * 1024, 128 * 4] ∧ k0_off10 (grid0.coords t) = ![t.val * 1024, 128 * 5]
    ∧ k0_off11 (grid0.coords t) = ![t.val * 1024, 128 * 6] ∧ k0_off12 (grid0.coords t) = ![t.val * 1024, 128 * 7] :=
  (by decide +kernel : ∀ t : Fin grid0.N, k0_off5 (grid0.coords t) = ![t.val * 1024, 128 * 0] ∧ k0_off6 (grid0.coords t) = ![t.val * 1024, 128 * 1]
    ∧ k0_off7 (grid0.coords t) = ![t.val * 1024, 128 * 2] ∧ k0_off8 (grid0.coords t) = ![t.val * 1024, 128 * 3]
    ∧ k0_off9 (grid0.coords t) = ![t.val * 1024, 128 * 4] ∧ k0_off10 (grid0.coords t) = ![t.val * 1024, 128 * 5]
    ∧ k0_off11 (grid0.coords t) = ![t.val * 1024, 128 * 6] ∧ k0_off12 (grid0.coords t) = ![t.val * 1024, 128 * 7]) t

/-- Rows of the widened values already right, and the next 1024 put head by head. -/
theorem putV_rows (t : Fin grid0.N) (s : Vec Ideal S2048x1024 .bf16) (f : Fin 2048 → Fin 1024 → EReal)
    (hs : ∀ i j, i.val < t.val * 1024 → s (ix2 i j) = f i j)
    (hw : ∀ (i : Fin 1024) (hd : Fin 8) (e : Fin 128) (hi : t.val * 1024 + i.val < 2048),
      widened (k0_pay24 h W) i hd e = f ⟨t.val * 1024 + i.val, hi⟩ ⟨128 * hd.val + e.val, by omega⟩)
    (i : Fin 2048) (j : Fin 1024) (hi : i.val < t.val * 1024 + 1024) : putV (grid0.coords t) s h W (ix2 i j) = f i j := by
  obtain ⟨h5, h6, h7, h8, h9, h10, h11, h12⟩ := offV t
  unfold putV
  dsimp only
  rw [h5, h6, h7, h8, h9, h10, h11, h12]
  refine put_step _ f _ _ _ (put_step _ f _ _ _ (put_step _ f _ _ _ (put_step _ f _ _ _ (put_step _ f _ _ _ (put_step _ f _ _ _
    (put_step _ f _ _ _ (put_step _ f _ _ _ (fun i j h => hs i j (by omega)) ?_) ?_) ?_) ?_) ?_) ?_) ?_) ?_ i j (by omega)
  · exact fun i j hi _ => (sliced_wide (k0_pay24 h W) i j 0 slices_S1024x512_o0_0_S1024x64 0 rfl).trans (hw i 0 j hi)
  · exact fun i j hi _ => (sliced_wide (k0_pay24 h W) i j 64 slices_S1024x512_o0_64_S1024x64 1 rfl).trans (hw i 1 j hi)
  · exact fun i j hi _ => (sliced_wide (k0_pay24 h W) i j 128 slices_S1024x512_o0_128_S1024x64 2 rfl).trans (hw i 2 j hi)
  · exact fun i j hi _ => (sliced_wide (k0_pay24 h W) i j 192 slices_S1024x512_o0_192_S1024x64 3 rfl).trans (hw i 3 j hi)
  · exact fun i j hi _ => (sliced_wide (k0_pay24 h W) i j 256 slices_S1024x512_o0_256_S1024x64 4 rfl).trans (hw i 4 j hi)
  · exact fun i j hi _ => (sliced_wide (k0_pay24 h W) i j 320 slices_S1024x512_o0_320_S1024x64 5 rfl).trans (hw i 5 j hi)
  · exact fun i j hi _ => (sliced_wide (k0_pay24 h W) i j 384 slices_S1024x512_o0_384_S1024x64 6 rfl).trans (hw i 6 j hi)
  · exact fun i j hi _ => (sliced_wide (k0_pay24 h W) i j 448 slices_S1024x512_o0_448_S1024x64 7 rfl).trans (hw i 7 j hi)

end Cert.Proof.Attn

end
-- ==== Proof.HeadVals.lean ====
module

public import proofs.«01_k».proof.Proof.Blocks
public import proofs.«01_k».proof.Proof.Spec
public import Idealize.ShloMosaic.Lib.Pointwise

@[expose] public section

set_option maxRecDepth 16384

noncomputable section

namespace Cert.Proof.Attn

open Idealize.ShloMosaic Idealize.ShloMosaic.TcCoe Idealize.ShloMosaic.Tactic
open Cert.KernelIdeal Cert.KernelIdeal.Gen

/-! # The heads of the second phase, element by element -/

/-- One head's context at a row, from the blocks' elements. -/
def headOf (q : Vec Ideal S1024x512 .bf16) (v : Vec Ideal S2048x1024 .bf16) (k : Vec Ideal S512x2048 .bf16) (b : Vec Ideal S1024x2048 .bf16)
    (r : Fin 1024) (hd : Fin 8) (e : Fin 64) : EReal :=
  kCtxH (fun j => q (ix2 r j)) (fun j m => k (ix2 j m)) (fun m j => v (ix2 m j)) (fun m => b (ix2 r m)) hd e

/-- Some rows of a matrix, as a window of it. -/
theorem window_rows {α : Type} {a b n : ℕ} (x : Shape.Idx ⟨2, ![a, b]⟩ → α) (o : ℕ) (inb) (i : Fin n) (m : Fin b) (h : o + i.val < a) :
    VecWindow.window (s := ⟨2, ![a, b]⟩) x ![o, 0] ![n, b] inb (ix2 i m) = x (ix2 ⟨o + i.val, h⟩ m) :=
  congrArg x (funext fun k => Fin.ext (by
    fin_cases k
    · show o + 1 * i.val = o + i.val; omega
    · show 0 + 1 * m.val = m.val; omega))

variable (q : Vec Ideal S1024x512 .bf16) (v : Vec Ideal S2048x1024 .bf16) (k : Vec Ideal S512x2048 .bf16) (b : Vec Ideal S1024x2048 .bf16)
  (r : Fin 1024) (e : Fin 64)

/-- A column of the heads set side by side belongs to the head it falls in. -/
theorem headOf_at (c : Fin 512) (hd : Fin 8) (h : c.val = 64 * hd.val + e.val) :
    headOf q v k b r hd e = headOf q v k b r ⟨c.val / 64, by omega⟩ ⟨c.val % 64, by omega⟩ := by
  rw [show (⟨c.val / 64, by omega⟩ : Fin 8) = hd from Fin.ext (by show c.val / 64 = hd.val; omega),
    show (⟨c.val % 64, by omega⟩ : Fin 64) = e from Fin.ext (by show c.val % 64 = e.val; omega)]

/-- Head 0. -/
theorem head0 : k0_pay29 q v (VecWindow.window k ![0, 0] S64x2048.size inb_S512x2048_S64x2048_0_0) b (ix2 r e) = headOf q v k b r 0 e := by
  have hk := fun (i : Fin 64) (m : Fin 2048) => window_rows k 0 inb_S512x2048_S64x2048_0_0 i m (by omega)
  generalize VecWindow.window k ![0, 0] S64x2048.size inb_S512x2048_S64x2048_0_0 = w at hk ⊢
  pointwise [k0_pay29]
  simp only [hk]
  simp only [headOf, kCtxH, kWeight, Fin.val_zero, Nat.mul_zero, Nat.zero_add]
  rfl

/-- Head 1. -/
theorem head1 : k0_pay30 q v (VecWindow.window k ![64, 0] S64x2048.size inb_S512x2048_S64x2048_64_0) b (ix2 r e) = headOf q v k b r 1 e := by
  have hk := fun (i : Fin 64) (m : Fin 2048) => window_rows k 64 inb_S512x2048_S64x2048_64_0 i m (by omega)
  generalize VecWindow.window k ![64, 0] S64x2048.size inb_S512x2048_S64x2048_64_0 = w at hk ⊢
  pointwise [k0_pay30]
  simp only [hk]
  rfl

/-- Head 2. -/
theorem head2 : k0_pay33 v (k0_pay31 q (VecWindow.window k ![128, 0] S64x2048.size inb_S512x2048_S64x2048_128_0)) (k0_pay32 b) (ix2 r e) = headOf q v k b r 2 e := by
  have hk := fun (i : Fin 64) (m : Fin 2048) => window_rows k 128 inb_S512x2048_S64x2048_128_0 i m (by omega)
  generalize VecWindow.window k ![128, 0] S64x2048.size inb_S512x2048_S64x2048_128_0 = w at hk ⊢
  pointwise [k0_pay33, k0_pay31, k0_pay32]
  simp only [hk]
  rfl

/-- Head 3. -/
theorem head3 : k0_pay34 q v (VecWindow.window k ![192, 0] S64x2048.size inb_S512x2048_S64x2048_192_0) b (ix2 r e) = headOf q v k b r 3 e := by
  have hk := fun (i : Fin 64) (m : Fin 2048) => window_rows k 192 inb_S512x2048_S64x2048_192_0 i m (by omega)
  generalize VecWindow.window k ![192, 0] S64x2048.size inb_S512x2048_S64x2048_192_0 = w at hk ⊢
  pointwise [k0_pay34]
  simp only [hk]
  rfl

/-- Head 4. -/
theorem head4 : k0_pay35 q v (VecWindow.window k ![256, 0] S64x2048.size inb_S512x2048_S64x2048_256_0) b (ix2 r e) = headOf q v k b r 4 e := by
  have hk := fun (i : Fin 64) (m : Fin 2048) => window_rows k 256 inb_S512x2048_S64x2048_256_0 i m (by omega)
  generalize VecWindow.window k ![256, 0] S64x2048.size inb_S512x2048_S64x2048_256_0 = w at hk ⊢
  pointwise [k0_pay35]
  simp only [hk]
  rfl

/-- The scores of head 5. -/
theorem score5 (m : Fin 2048) : k0_pay36 q (VecWindow.window k ![320, 0] S64x2048.size inb_S512x2048_S64x2048_320_0) (ix2 r m) =
    ∑ e : Fin 64, q (ix2 r ⟨320 + e.val, by omega⟩) * k (ix2 ⟨320 + e.val, by omega⟩ m) := by
  have hk := fun (i : Fin 64) (m : Fin 2048) => window_rows k 320 inb_S512x2048_S64x2048_320_0 i m (by omega)
  generalize VecWindow.window k ![320, 0] S64x2048.size inb_S512x2048_S64x2048_320_0 = w at hk ⊢
  pointwise [k0_pay36]
  simp only [hk]

/-- The bias widened is the bias. -/
theorem bias5 (m : Fin 2048) : k0_pay37 b (ix2 r m) = b (ix2 r m) := by
  pointwise [k0_pay37]

/-- Eight blocks of 64 columns set side by side. -/
def sideBySide (f0 f1 f2 f3 f4 f5 f6 f7 : Fin 64 → EReal) (c : Fin 512) : EReal :=
  if h : c.val < 64 then f0 ⟨c.val, h⟩ else
  if h : c.val - 64 < 64 then f1 ⟨c.val - 64, h⟩ else
  if h : c.val - 64 - 64 < 64 then f2 ⟨c.val - 64 - 64, h⟩ else
  if h : c.val - 64 - 64 - 64 < 64 then f3 ⟨c.val - 64 - 64 - 64, h⟩ else
  if h : c.val - 64 - 64 - 64 - 64 < 64 then f4 ⟨c.val - 64 - 64 - 64 - 64, h⟩ else
  if h : c.val - 64 - 64 - 64 - 64 - 64 < 64 then f5 ⟨c.val - 64 - 64 - 64 - 64 - 64, h⟩ else
  if h : c.val - 64 - 64 - 64 - 64 - 64 - 64 < 64 then f6 ⟨c.val - 64 - 64 - 64 - 64 - 64 - 64, h⟩ else
  f7 ⟨c.val - 64 - 64 - 64 - 64 - 64 - 64 - 64, by omega⟩

/-- The last step of the heads, element by element: five given, three computed in place. -/
theorem cat_apply (c0 c1 c2 c3 c4 : FVec Ideal S1024x64 .f32) (sc bb : FVec Ideal S1024x2048 .f32) (k6 k7 : Vec Ideal S64x2048 .bf16) (c : Fin 512) :
    k0_pay38 q v c0 c1 c2 c3 c4 sc bb k6 b k7 b (ix2 r c) =
      sideBySide (fun e => c0 (ix2 r e)) (fun e => c1 (ix2 r e)) (fun e => c2 (ix2 r e)) (fun e => c3 (ix2 r e)) (fun e => c4 (ix2 r e))
        (fun e => Ideal.div (∑ x, Ideal.exp2 (sc (ix2 r x) + bb (ix2 r x)) * v (ix2 x ⟨640 + e.val, by omega⟩))
          (∑ x, Ideal.exp2 (sc (ix2 r x) + bb (ix2 r x)) * v (ix2 x 704)))
        (fun e => Ideal.div
          (∑ x, Ideal.exp2 ((∑ l : Fin 64, q (ix2 r ⟨384 + l.val, by omega⟩) * k6 (ix2 l x)) + b (ix2 r x)) * v (ix2 x ⟨768 + e.val, by omega⟩))
          (∑ x, Ideal.exp2 ((∑ l : Fin 64, q (ix2 r ⟨384 + l.val, by omega⟩) * k6 (ix2 l x)) + b (ix2 r x)) * v (ix2 x 832)))
        (fun e => Ideal.div
          (∑ x, Ideal.exp2 ((∑ l : Fin 64, q (ix2 r ⟨448 + l.val, by omega⟩) * k7 (ix2 l x)) + b (ix2 r x)) * v (ix2 x ⟨896 + e.val, by omega⟩))
          (∑ x, Ideal.exp2 ((∑ l : Fin 64, q (ix2 r ⟨448 + l.val, by omega⟩) * k7 (ix2 l x)) + b (ix2 r x)) * v (ix2 x 960))) c := by
  generalize hy : sideBySide _ _ _ _ _ _ _ _ c = y
  pointwise [k0_pay38]
  subst hy
  rfl

/-- The eight heads set side by side. -/
theorem heads_apply (c : Fin 512) :
    k0_pay38 q v (k0_pay29 q v (VecWindow.window k ![0, 0] S64x2048.size inb_S512x2048_S64x2048_0_0) b) (k0_pay30 q v (VecWindow.window k ![64, 0] S64x2048.size inb_S512x2048_S64x2048_64_0) b) (k0_pay33 v (k0_pay31 q (VecWindow.window k ![128, 0] S64x2048.size inb_S512x2048_S64x2048_128_0)) (k0_pay32 b)) (k0_pay34 q v (VecWindow.window k ![192, 0] S64x2048.size inb_S512x2048_S64x2048_192_0) b) (k0_pay35 q v (VecWindow.window k ![256, 0] S64x2048.size inb_S512x2048_S64x2048_256_0) b)
        (k0_pay36 q (VecWindow.window k ![320, 0] S64x2048.size inb_S512x2048_S64x2048_320_0)) (k0_pay37 b)
        (VecWindow.window k ![384, 0] S64x2048.size inb_S512x2048_S64x2048_384_0) b (VecWindow.window k ![448, 0] S64x2048.size inb_S512x2048_S64x2048_448_0) b (ix2 r c)
      = headOf q v k b r ⟨c.val / 64, by omega⟩ ⟨c.val % 64, by omega⟩ := by
  have hk6 := fun (i : Fin 64) (m : Fin 2048) => window_rows k 384 inb_S512x2048_S64x2048_384_0 i m (by omega)
  have hk7 := fun (i : Fin 64) (m : Fin 2048) => window_rows k 448 inb_S512x2048_S64x2048_448_0 i m (by omega)
  have hs5 := fun m => score5 q k r m
  have hb5 := fun m => bias5 b r m
  generalize k0_pay36 q (VecWindow.window k ![320, 0] S64x2048.size inb_S512x2048_S64x2048_320_0) = sc at hs5 ⊢
  generalize k0_pay37 b = bb at hb5 ⊢
  refine (cat_apply q v b r _ _ _ _ _ _ _ _ _ c).trans ?_
  refine (show _ = sideBySide (headOf q v k b r 0) (headOf q v k b r 1) (headOf q v k b r 2) (headOf q v k b r 3) (headOf q v k b r 4) (headOf q v k b r 5) (headOf q v k b r 6) (headOf q v k b r 7) c from ?_).trans ?_
  · congr 1
    · exact funext fun e => head0 q v k b r e
    · exact funext fun e => head1 q v k b r e
    · exact funext fun e => head2 q v k b r e
    · exact funext fun e => head3 q v k b r e
    · exact funext fun e => head4 q v k b r e
    · funext e
      simp only [hs5, hb5]
      rfl
    · funext e
      simp only [hk6]
      rfl
    · funext e
      simp only [hk7]
      rfl
  unfold sideBySide
  split
  · exact headOf_at q v k b r ⟨c.val, by omega⟩ c 0 (by show _ = _ + _; simp only [Fin.isValue]; omega)
  split
  · exact headOf_at q v k b r ⟨c.val - 64, by omega⟩ c 1 (by show _ = _ + _; simp only [Fin.isValue]; omega)
  split
  · exact headOf_at q v k b r ⟨c.val - 64 - 64, by omega⟩ c 2 (by show _ = _ + _; simp only [Fin.isValue]; omega)
  split
  · exact headOf_at q v k b r ⟨c.val - 64 - 64 - 64, by omega⟩ c 3 (by show _ = _ + _; simp only [Fin.isValue]; omega)
  split
  · exact headOf_at q v k b r ⟨c.val - 64 - 64 - 64 - 64, by omega⟩ c 4 (by show _ = _ + _; simp only [Fin.isValue]; omega)
  split
  · exact headOf_at q v k b r ⟨c.val - 64 - 64 - 64 - 64 - 64, by omega⟩ c 5 (by show _ = _ + _; simp only [Fin.isValue]; omega)
  split
  · exact headOf_at q v k b r ⟨c.val - 64 - 64 - 64 - 64 - 64 - 64, by omega⟩ c 6 (by show _ = _ + _; simp only [Fin.isValue]; omega)
  · exact headOf_at q v k b r ⟨c.val - 64 - 64 - 64 - 64 - 64 - 64 - 64, by omega⟩ c 7 (by show _ = _ + _; simp only [Fin.isValue]; omega)

/-- A row of the result from the rows of the carried buffers. -/
theorem outBlk_apply (h : Vec Ideal S1024x512 .f32) (W : Vec Ideal S512x512 .bf16) (j : Fin 512) :
    outBlk h q k v b W (ix2 r j) =
      kOutRow (fun j => h (ix2 r j)) (fun j => q (ix2 r j)) (fun j m => k (ix2 j m)) (fun m j => v (ix2 m j)) (fun m => b (ix2 r m))
        (fun c j => W (ix2 c j)) j := by
  have hh := fun c => heads_apply q v k b r c
  unfold outBlk
  generalize k0_pay38 q v _ _ _ _ _ _ _ _ _ _ _ = y at hh ⊢
  pointwise [k0_pay8, k0_pay39]
  simp only [hh]
  rfl

end Cert.Proof.Attn

end
-- ==== Proof.Fill.lean ====
module

public import proofs.«01_k».proof.Proof.Inputs
public import proofs.«01_k».proof.Proof.Layout
public import proofs.«01_k».proof.Proof.HeadVals

@[expose] public section

set_option maxRecDepth 16384

noncomputable section

namespace Cert.Proof.Attn

open Idealize.ShloMosaic Idealize.ShloMosaic.TcCoe Idealize.ShloMosaic.Tactic
open Cert.KernelIdeal Cert.KernelIdeal.Gen

/-! # The carried buffers after each point, and the block the second phase writes -/

/-- The carried buffers hold the right values for the first `n` atoms. -/
structure Filled (X : Inp) (n : ℕ) (s0 : Vec Ideal S2048x512 .f32) (s1 : Vec Ideal S2048x512 .bf16) (s2 : Vec Ideal S512x2048 .bf16)
    (s3 : Vec Ideal S2048x1024 .bf16) (s4 : Vec Ideal S2048x2048 .bf16) : Prop where
  h : ∀ r j, r.val < n → s0 (ix2 r j) = hid X r j
  q : ∀ r j, r.val < n → s1 (ix2 r j) = kQ X r j
  k : ∀ j r, r.val < n → s2 (ix2 j r) = kK X r j
  v : ∀ r c, r.val < n → s3 (ix2 r c) = kVCol X r c
  b : ∀ r m, r.val < n → s4 (ix2 r m) = kBias X r m

section Blocks

variable {X : Inp} {R : Fin 1024 → Fin 2048} {x0 : Vec Ideal S1024x10 .f32} {x1 : Vec Ideal S1024x4 .f32} {x2 : Vec Ideal S10x2048 .f32}
    {x3 : Vec Ideal S4x2048 .f32} {x4 : Vec Ideal S4x512 .f32} {x5 x6 x7 : Vec Ideal S1x512 .f32} {x8 : Vec Ideal S10x512 .f32}
    {x9 x10 x11 : Vec Ideal S512x512 .bf16} {x13 : Vec Ideal S1024x1 .i32} {x14 : Vec Ideal S1x2048 .i32}
    (H : Shows X R x0 x1 x2 x3 x4 x5 x6 x7 x8 x9 x10 x11 x13 x14)

include H

/-- The hidden state's block. -/
theorem Shows.hidden (r : Fin 1024) (j : Fin 512) : hBlk x0 x1 x4 x5 x6 x7 x8 (ix2 r j) = hid X (R r) j := by
  rw [hBlk_apply]
  simp only [H.rows.p, H.rows.s, H.ws, H.bs, H.g, H.b, H.wp]
  rfl

/-- The queries' block. -/
theorem Shows.query (r : Fin 1024) (j : Fin 512) :
    k0_pay22 (hBlk x0 x1 x4 x5 x6 x7 x8) (anyBlk x0 x1 x2 x3 x13 x14) x9 (ix2 r j) = kQ X (R r) j := by
  rw [qBlk_apply, H.rows.any]
  simp only [H.hidden, H.wq]
  rfl

/-- The keys' block. -/
theorem Shows.key (r : Fin 1024) (j : Fin 512) : k0_pay23 (hBlk x0 x1 x4 x5 x6 x7 x8) x10 (ix2 j r) = kK X (R r) j := by
  rw [kBlk_apply]
  simp only [H.hidden, H.wk]
  rfl

/-- The values' block. -/
theorem Shows.value (r : Fin 1024) (j : Fin 512) : k0_pay24 (hBlk x0 x1 x4 x5 x6 x7 x8) x11 (ix2 r j) = kV X (R r) j := by
  rw [vBlk_apply]
  simp only [H.hidden, H.wv]
  rfl

/-- The values' block, widened. -/
theorem Shows.wide (r : Fin 1024) (hd : Fin 8) (e : Fin 128) :
    widened (k0_pay24 (hBlk x0 x1 x4 x5 x6 x7 x8) x11) r hd e = kVCol X (R r) ⟨128 * hd.val + e.val, by omega⟩ := by
  unfold kVCol
  have h1 : (⟨(128 * hd.val + e.val) / 128, by omega⟩ : Fin 8) = hd := Fin.ext (by show (128 * hd.val + e.val) / 128 = hd.val; omega)
  have h2 : (⟨(128 * hd.val + e.val) % 128, by omega⟩ : Fin 128) = e := Fin.ext (by show (128 * hd.val + e.val) % 128 = e.val; omega)
  show _ = kVAug X (R r) ⟨(128 * hd.val + e.val) / 128, by omega⟩ ⟨(128 * hd.val + e.val) % 128, by omega⟩
  rw [h1, h2]
  unfold widened kVAug
  simp only [H.value]

end Blocks

section Phases

variable (m : (ℓ : Loc nD τ sig) → Buf (Elt Ideal) ℓ) (c : Dev nD) (t : Fin cfg0.N)

/-- Where each point of the first phase puts its rows. -/
theorem offs (t : Fin grid0.N) : k0_off1 (grid0.coords t) = ![t.val * 1024, 0] ∧ k0_off3 (grid0.coords t) = ![t.val * 1024, 0]
    ∧ k0_off4 (grid0.coords t) = ![0, t.val * 1024] :=
  (by decide +kernel : ∀ t : Fin grid0.N, k0_off1 (grid0.coords t) = ![t.val * 1024, 0] ∧ k0_off3 (grid0.coords t) = ![t.val * 1024, 0]
    ∧ k0_off4 (grid0.coords t) = ![0, t.val * 1024]) t

/-- Where each point of the second phase reads its rows. -/
theorem offs' (t : Fin grid0.N) (h : 2 ≤ t.val) : k0_off13 (grid0.coords t) = ![(t.val - 2) * 1024, 0] ∧ k0_off14 (grid0.coords t) = ![(t.val - 2) * 1024, 0] :=
  (by decide +kernel : ∀ t : Fin grid0.N, 2 ≤ t.val → k0_off13 (grid0.coords t) = ![(t.val - 2) * 1024, 0] ∧ k0_off14 (grid0.coords t) = ![(t.val - 2) * 1024, 0]) t h

variable {s0 : Vec Ideal S2048x512 .f32} {s1 : Vec Ideal S2048x512 .bf16} {s2 : Vec Ideal S512x2048 .bf16}
    {s3 : Vec Ideal S2048x1024 .bf16} {s4 : Vec Ideal S2048x2048 .bf16}

/-- A point of the first phase fills 1024 more rows. -/
theorem Filled.step (h : t.val < 2) (H : Filled (kInp m c) (t.val * 1024) s0 s1 s2 s3 s4) :
    Filled (kInp m c) (t.val * 1024 + 1024)
      (VecWindow.put s0 (k0_off1 (grid0.coords t)) S1024x512.size
        (hStored (iblk m c 0 t) (iblk m c 1 t) (iblk m c 4 t) (iblk m c 5 t) (iblk m c 6 t) (iblk m c 7 t) (iblk m c 8 t)))
      (VecWindow.put s1 (k0_off1 (grid0.coords t)) S1024x512.size
        (k0_pay22 (hBlk (iblk m c 0 t) (iblk m c 1 t) (iblk m c 4 t) (iblk m c 5 t) (iblk m c 6 t) (iblk m c 7 t) (iblk m c 8 t))
          (anyBlk (iblk m c 0 t) (iblk m c 1 t) (iblk m c 2 t) (iblk m c 3 t) (iblk m c 13 t) (iblk m c 14 t)) (iblk m c 9 t)))
      (VecWindow.put s2 (k0_off4 (grid0.coords t)) S512x1024.size
        (k0_pay23 (hBlk (iblk m c 0 t) (iblk m c 1 t) (iblk m c 4 t) (iblk m c 5 t) (iblk m c 6 t) (iblk m c 7 t) (iblk m c 8 t)) (iblk m c 10 t)))
      (putV (grid0.coords t) s3 (hBlk (iblk m c 0 t) (iblk m c 1 t) (iblk m c 4 t) (iblk m c 5 t) (iblk m c 6 t) (iblk m c 7 t) (iblk m c 8 t)) (iblk m c 11 t))
      (VecWindow.put s4 (k0_off3 (grid0.coords t)) S1024x2048.size
        (biasBlk (iblk m c 0 t) (iblk m c 1 t) (iblk m c 2 t) (iblk m c 3 t) (iblk m c 13 t) (iblk m c 14 t))) := by
  have hS := shows_iblk m c t h
  obtain ⟨h1, h3, h4⟩ := offs t
  rw [h1, h3, h4]
  exact
    { h := fun r j hr => put_rows s0 (hid (kInp m c)) _ _ H.h (fun i j hi => (hStored_apply _ _ _ _ _ _ _ i j).trans (hS.hidden i j)) r j hr
      q := fun r j hr => put_rows s1 (kQ (kInp m c)) _ _ H.q (fun i j hi => hS.query i j) r j hr
      k := fun j r hr => put_cols s2 (fun j r => kK (kInp m c) r j) _ _ H.k (fun j i hi => hS.key i j) j r hr
      v := fun r j hr => putV_rows _ _ t s3 (kVCol (kInp m c)) H.v (fun i hd e hi => hS.wide i hd e) r j hr
      b := fun r j hr => put_rows s4 (kBias (kInp m c)) _ _ H.b (fun i j hi => hS.rows.bias i j) r j hr }

/-- A point of the second phase reads full buffers and leaves 1024 rows of the result. -/
theorem Filled.out (h : 2 ≤ t.val) (i1 i2 i3) (H : Filled (kInp m c) 2048 s0 s1 s2 s3 s4) (r : Fin 1024) (j : Fin 512) :
    outBlk (VecWindow.window s0 (k0_off13 (grid0.coords t)) S1024x512.size i1) (VecWindow.window s1 (k0_off13 (grid0.coords t)) S1024x512.size i2) s2 s3
      (VecWindow.window s4 (k0_off14 (grid0.coords t)) S1024x2048.size i3) (iblk m c 12 t) (ix2 r j)
        = kOut (kInp m c) ⟨(t.val - 2) * 1024 + r.val, by have := t.isLt; have hN : cfg0.N = 4 := N_0; omega⟩ j := by
  obtain ⟨h13, h14⟩ := offs' t h
  have hr : (t.val - 2) * 1024 + r.val < 2048 := by have := t.isLt; have hN : cfg0.N = 4 := N_0; omega
  rw [outBlk_apply]
  revert i1 i2 i3
  rw [h13, h14]
  intro i1 i2 i3
  have e0 := fun j => (window_rows s0 _ i1 r j hr).trans (H.h _ j (by omega))
  have e1 := fun j => (window_rows s1 _ i2 r j hr).trans (H.q _ j (by omega))
  have e4 := fun j => (window_rows s4 _ i3 r j hr).trans (H.b _ j (by omega))
  have e2 := fun j r => H.k j r r.isLt
  have e3 := fun r j => H.v r j r.isLt
  have e5 := fun k j => wo_iblk m c t k j
  unfold kOut
  generalize iblk m c 12 t = W at e5 ⊢
  simp only [e0, e1, e2, e3, e4, e5]

end Phases

end Cert.Proof.Attn

end
-- ==== Proof.Launch.lean ====
module

public import proofs.«01_k».proof.Proof.EmbedRun
public import proofs.«01_k».proof.Proof.AttendRun
public import proofs.«01_k».proof.Proof.Fill
public import proofs.«01_k».proof.Proof.Gen.KernelIdeal.Frame
public import Idealize.ShloMosaic.Lib.Pipeline.DatRel
public import Idealize.ShloMosaic.Lib.Pipeline.FrameBody

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The launch's body obligation: what is carried from point to point, and what the last two points leave -/

local notation "𝕄" => MT nD τ sig Unit (Elt Ideal) ℕ (UR sig nD τ) ℕ

variable (m : (ℓ : Loc nD τ sig) → Buf (Elt Ideal) ℓ) (c : Dev nD)

/-- The first branch is taken at points 0 and 1. -/
theorem first_iff : ∀ t : Fin cfg0.N, k0_cond1 (grid0.coords t) = 1#1 ↔ t.val < 2 :=
  (by decide +kernel : ∀ t : Fin grid0.N, k0_cond1 (grid0.coords t) = 1#1 ↔ t.val < 2)

/-- The second branch is taken at points 2 and 3. -/
theorem second_iff : ∀ t : Fin cfg0.N, k0_cond2 (grid0.coords t) = 1#1 ↔ 2 ≤ t.val :=
  (by decide +kernel : ∀ t : Fin grid0.N, k0_cond2 (grid0.coords t) = 1#1 ↔ 2 ≤ t.val)

/-- Window by window, the staging buffer in use at point `t`. -/
abbrev st0 (t : Fin cfg0.N) : Memref sig .tc .vmem S1024x10 .f32 := win0_0.stage (cfg0.slots t 0)
/-- Window 1's. -/
abbrev st1 (t : Fin cfg0.N) : Memref sig .tc .vmem S1024x4 .f32 := win0_1.stage (cfg0.slots t 1)
/-- Window 2's. -/
abbrev st2 (t : Fin cfg0.N) : Memref sig .tc .vmem S10x2048 .f32 := win0_2.stage (cfg0.slots t 2)
/-- Window 3's. -/
abbrev st3 (t : Fin cfg0.N) : Memref sig .tc .vmem S4x2048 .f32 := win0_3.stage (cfg0.slots t 3)
/-- Window 4's. -/
abbrev st4 (t : Fin cfg0.N) : Memref sig .tc .vmem S4x512 .f32 := win0_4.stage (cfg0.slots t 4)
/-- Window 5's. -/
abbrev st5 (t : Fin cfg0.N) : Memref sig .tc .vmem S1x512 .f32 := win0_5.stage (cfg0.slots t 5)
/-- Window 6's. -/
abbrev st6 (t : Fin cfg0.N) : Memref sig .tc .vmem S1x512 .f32 := win0_6.stage (cfg0.slots t 6)
/-- Window 7's. -/
abbrev st7 (t : Fin cfg0.N) : Memref sig .tc .vmem S1x512 .f32 := win0_7.stage (cfg0.slots t 7)
/-- Window 8's. -/
abbrev st8 (t : Fin cfg0.N) : Memref sig .tc .vmem S10x512 .f32 := win0_8.stage (cfg0.slots t 8)
/-- Window 9's. -/
abbrev st9 (t : Fin cfg0.N) : Memref sig .tc .vmem S512x512 .bf16 := win0_9.stage (cfg0.slots t 9)
/-- Window 10's. -/
abbrev st10 (t : Fin cfg0.N) : Memref sig .tc .vmem S512x512 .bf16 := win0_10.stage (cfg0.slots t 10)
/-- Window 11's. -/
abbrev st11 (t : Fin cfg0.N) : Memref sig .tc .vmem S512x512 .bf16 := win0_11.stage (cfg0.slots t 11)
/-- Window 12's. -/
abbrev st12 (t : Fin cfg0.N) : Memref sig .tc .vmem S512x512 .bf16 := win0_12.stage (cfg0.slots t 12)
/-- Window 13's. -/
abbrev st13 (t : Fin cfg0.N) : Memref sig .tc .vmem S1024x1 .i32 := win0_13.stage (cfg0.slots t 13)
/-- Window 14's. -/
abbrev st14 (t : Fin cfg0.N) : Memref sig .tc .vmem S1x2048 .i32 := win0_14.stage (cfg0.slots t 14)
/-- Window 15's. -/
abbrev st15 (t : Fin cfg0.N) : Memref sig .tc .vmem S1024x512 .f32 := win0_15.stage (cfg0.slots t 15)

/-- The carried buffers, whole. -/
abbrev sc0 : Memref sig .tc .vmem S2048x512 .f32 := Memref.whole cc0_scratch0
/-- The next carried buffer (1). -/
abbrev sc1 : Memref sig .tc .vmem S2048x512 .bf16 := Memref.whole cc0_scratch1
/-- The next carried buffer (2). -/
abbrev sc2 : Memref sig .tc .vmem S512x2048 .bf16 := Memref.whole cc0_scratch2
/-- The next carried buffer (3). -/
abbrev sc3 : Memref sig .tc .vmem S2048x1024 .bf16 := Memref.whole cc0_scratch3
/-- The next carried buffer (4). -/
abbrev sc4 : Memref sig .tc .vmem S2048x2048 .bf16 := Memref.whole cc0_scratch4
/-- The next carried buffer (5). -/
abbrev sc5 : Memref sig .tc .vmem S2048x1 .i32 := Memref.whole cc0_scratch5
/-- The next carried buffer (6). -/
abbrev sc6 : Memref sig .tc .vmem S1x2048 .i32 := Memref.whole cc0_scratch6

/-- The frame's invariant, its scratch buffers as memrefs owned at some contents. -/
theorem frame_inv : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The carried buffers, right for the first `n` atoms. -/
def carried (n : ℕ) : sProp 𝕄 :=
  iprop(∃ (s0 : Vec Ideal S2048x512 .f32) (s1 : Vec Ideal S2048x512 .bf16) (s2 : Vec Ideal S512x2048 .bf16) (s3 : Vec Ideal S2048x1024 .bf16)
      (s4 : Vec Ideal S2048x2048 .bf16) (s5 : Vec Ideal S2048x1 .i32) (s6 : Vec Ideal S1x2048 .i32),
    ⌜Filled (kInp m c) n s0 s1 s2 s3 s4⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5 ∗ owns (c : Thread nD τ) sc6 fullShare s6)

/-- `carried`, unfolded. -/
theorem carried_eq (n : ℕ) : carried m c n = iprop(∃ (s0 : Vec Ideal S2048x512 .f32) (s1 : Vec Ideal S2048x512 .bf16) (s2 : Vec Ideal S512x2048 .bf16)
      (s3 : Vec Ideal S2048x1024 .bf16) (s4 : Vec Ideal S2048x2048 .bf16) (s5 : Vec Ideal S2048x1 .i32) (s6 : Vec Ideal S1x2048 .i32),
    ⌜Filled (kInp m c) n s0 s1 s2 s3 s4⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5 ∗ owns (c : Thread nD τ) sc6 fullShare s6) := rfl

/-- The carried buffers from seven buffers that are right. -/
theorem carried_of {n : ℕ} {s0 s1 s2 s3 s4} {s5 : Vec Ideal S2048x1 .i32} {s6 : Vec Ideal S1x2048 .i32} (hs : Filled (kInp m c) n s0 s1 s2 s3 s4) :
    iprop(owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5 ∗ owns (c : Thread nD τ) sc6 fullShare s6) ⊢ (carried m c n : sProp 𝕄) := by
  rw [carried_eq]
  iintro H
  iexists s0, s1, s2, s3, s4, s5, s6
  isplitr
  · ipureintro; exact hs
  iexact H

/-- How many atoms are done before point `n`. -/
def doneBefore (n : ℕ) : ℕ := min n 2 * 1024

/-- The proof data: the arrays as the region finds them, each input's buffer at its block, the carried buffers right for
    the atoms done. Of the output's buffer nothing is said here (`leaves` says it). -/
def data (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ t := iprop(carried m c (doneBefore t.val) ∗ (∃ r, prngReg c r))
  q _ := fullShare
  owed _ := 0

/-- The proof data's arrays. -/
theorem data_A (w : Fin cfg0.W) : (data m 0 c).A w = V m c (Pipeline.arrRef spec0 w) := by dsimp only [data]

/-- The one window whose contents are said by a relation: the output. -/
def related : Fin 16 → Bool := fun w => w.val == 15

/-- What the body leaves in the output's buffer: from point 2 on, the rows of the block at that point. -/
def leaves (w : Fin cfg0.W) (t : Fin cfg0.N) : ((cfg0.win w).block.Idx → Elt Ideal (cfg0.win w).elt) → Prop :=
  match w with
  | ⟨15, _⟩ => fun (X : Vec Ideal S1024x512 .f32) => 2 ≤ t.val → ∀ (R : Fin 2048) (r : Fin 1024) (j : Fin 512),
      R.val = (t.val - 2) * 1024 + r.val → X (ix2 r j) = kOut (kInp m c) R j
  | _ => fun _ => True

/-- Window by window: what the body leaves of an input, and what it finds there: the block. -/
theorem left0 (t : Fin cfg0.N) : (data m 0 c).after 0 t = iblk m c 0 t := by dsimp only [data]
/-- Window 0, found. -/
theorem found0 (t : Fin cfg0.N) (d) : (data m 0 c).before 0 t d = iblk m c 0 t :=
  before0_0_of m (data m 0 c) (data_A m c 0) (left0 m c) t d
/-- Window 1. -/
theorem left1 (t : Fin cfg0.N) : (data m 0 c).after 1 t = iblk m c 1 t := by dsimp only [data]
/-- Window 1, found. -/
theorem found1 (t : Fin cfg0.N) (d) : (data m 0 c).before 1 t d = iblk m c 1 t :=
  before0_1_of m (data m 0 c) (data_A m c 1) (left1 m c) t d
/-- Window 2. -/
theorem left2 (t : Fin cfg0.N) : (data m 0 c).after 2 t = iblk m c 2 t := by dsimp only [data]
/-- Window 2, found. -/
theorem found2 (t : Fin cfg0.N) (d) : (data m 0 c).before 2 t d = iblk m c 2 t :=
  before0_2_of m (data m 0 c) (data_A m c 2) (left2 m c) t d
/-- Window 3. -/
theorem left3 (t : Fin cfg0.N) : (data m 0 c).after 3 t = iblk m c 3 t := by dsimp only [data]
/-- Window 3, found. -/
theorem found3 (t : Fin cfg0.N) (d) : (data m 0 c).before 3 t d = iblk m c 3 t :=
  before0_3_of m (data m 0 c) (data_A m c 3) (left3 m c) t d
/-- Window 4. -/
theorem left4 (t : Fin cfg0.N) : (data m 0 c).after 4 t = iblk m c 4 t := by dsimp only [data]
/-- Window 4, found. -/
theorem found4 (t : Fin cfg0.N) (d) : (data m 0 c).before 4 t d = iblk m c 4 t :=
  before0_4_of m (data m 0 c) (data_A m c 4) (left4 m c) t d
/-- Window 5. -/
theorem left5 (t : Fin cfg0.N) : (data m 0 c).after 5 t = iblk m c 5 t := by dsimp only [data]
/-- Window 5, found. -/
theorem found5 (t : Fin cfg0.N) (d) : (data m 0 c).before 5 t d = iblk m c 5 t :=
  before0_5_of m (data m 0 c) (data_A m c 5) (left5 m c) t d
/-- Window 6. -/
theorem left6 (t : Fin cfg0.N) : (data m 0 c).after 6 t = iblk m c 6 t := by dsimp only [data]
/-- Window 6, found. -/
theorem found6 (t : Fin cfg0.N) (d) : (data m 0 c).before 6 t d = iblk m c 6 t :=
  before0_6_of m (data m 0 c) (data_A m c 6) (left6 m c) t d
/-- Window 7. -/
theorem left7 (t : Fin cfg0.N) : (data m 0 c).after 7 t = iblk m c 7 t := by dsimp only [data]
/-- Window 7, found. -/
theorem found7 (t : Fin cfg0.N) (d) : (data m 0 c).before 7 t d = iblk m c 7 t :=
  before0_7_of m (data m 0 c) (data_A m c 7) (left7 m c) t d
/-- Window 8. -/
theorem left8 (t : Fin cfg0.N) : (data m 0 c).after 8 t = iblk m c 8 t := by dsimp only [data]
/-- Window 8, found. -/
theorem found8 (t : Fin cfg0.N) (d) : (data m 0 c).before 8 t d = iblk m c 8 t :=
  before0_8_of m (data m 0 c) (data_A m c 8) (left8 m c) t d
/-- Window 9. -/
theorem left9 (t : Fin cfg0.N) : (data m 0 c).after 9 t = iblk m c 9 t := by dsimp only [data]
/-- Window 9, found. -/
theorem found9 (t : Fin cfg0.N) (d) : (data m 0 c).before 9 t d = iblk m c 9 t :=
  before0_9_of m (data m 0 c) (data_A m c 9) (left9 m c) t d
/-- Window 10. -/
theorem left10 (t : Fin cfg0.N) : (data m 0 c).after 10 t = iblk m c 10 t := by dsimp only [data]
/-- Window 10, found. -/
theorem found10 (t : Fin cfg0.N) (d) : (data m 0 c).before 10 t d = iblk m c 10 t :=
  before0_10_of m (data m 0 c) (data_A m c 10) (left10 m c) t d
/-- Window 11. -/
theorem left11 (t : Fin cfg0.N) : (data m 0 c).after 11 t = iblk m c 11 t := by dsimp only [data]
/-- Window 11, found. -/
theorem found11 (t : Fin cfg0.N) (d) : (data m 0 c).before 11 t d = iblk m c 11 t :=
  before0_11_of m (data m 0 c) (data_A m c 11) (left11 m c) t d
/-- Window 12. -/
theorem left12 (t : Fin cfg0.N) : (data m 0 c).after 12 t = iblk m c 12 t := by dsimp only [data]
/-- Window 12, found. -/
theorem found12 (t : Fin cfg0.N) (d) : (data m 0 c).before 12 t d = iblk m c 12 t :=
  before0_12_of m (data m 0 c) (data_A m c 12) (left12 m c) t d
/-- Window 13. -/
theorem left13 (t : Fin cfg0.N) : (data m 0 c).after 13 t = iblk m c 13 t := by dsimp only [data]
/-- Window 13, found. -/
theorem found13 (t : Fin cfg0.N) (d) : (data m 0 c).before 13 t d = iblk m c 13 t :=
  before0_13_of m (data m 0 c) (data_A m c 13) (left13 m c) t d
/-- Window 14. -/
theorem left14 (t : Fin cfg0.N) : (data m 0 c).after 14 t = iblk m c 14 t := by dsimp only [data]
/-- Window 14, found. -/
theorem found14 (t : Fin cfg0.N) (d) : (data m 0 c).before 14 t d = iblk m c 14 t :=
  before0_14_of m (data m 0 c) (data_A m c 14) (left14 m c) t d

/-- What the body is called with. -/
def pre (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare ((data m 0 c).before 3 t d))
    ∗ (∃ d, owns (c : Thread nD τ) (st4 t) fullShare ((data m 0 c).before 4 t d))
    ∗ (∃ d, owns (c : Thread nD τ) (st5 t) fullShare ((data m 0 c).before 5 t d))
    ∗ (∃ d, owns (c : Thread nD τ) (st6 t) fullShare ((data m 0 c).before 6 t d))
    ∗ (∃ d, owns (c : Thread nD τ) (st7 t) fullShare ((data m 0 c).before 7 t d))
    ∗ (∃ d, owns (c : Thread nD τ) (st8 t) fullShare ((data m 0 c).before 8 t d))
    ∗ (∃ d, owns (c : Thread nD τ) (st9 t) fullShare ((data m 0 c).before 9 t d))
    ∗ (∃ d, owns (c : Thread nD τ) (st10 t) fullShare ((data m 0 c).before 10 t d))
    ∗ (∃ d, owns (c : Thread nD τ) (st11 t) fullShare ((data m 0 c).before 11 t d))
    ∗ (∃ d, owns (c : Thread nD τ) (st12 t) fullShare ((data m 0 c).before 12 t d))
    ∗ (∃ d, owns (c : Thread nD τ) (st13 t) fullShare ((data m 0 c).before 13 t d))
    ∗ (∃ d, owns (c : Thread nD τ) (st14 t) fullShare ((data m 0 c).before 14 t d))
    ∗ (∃ Y, ⌜((data m 0 c).toRRel related (leaves m c)).Finds 15 t Y⌝ ∗ owns (c : Thread nD τ) (st15 t) fullShare Y))

/-- What the body gives back. -/
def post (t : Fin cfg0.N) : sProp 𝕄 :=
  iprop((data m 0 c).Φ t.succ ∗ (data m 0 c).owesAt () t.succ
    ∗ owns (c : Thread nD τ) (st0 t) fullShare ((data m 0 c).after 0 t)
    ∗ owns (c : Thread nD τ) (st1 t) fullShare ((data m 0 c).after 1 t)
    ∗ owns (c : Thread nD τ) (st2 t) fullShare ((data m 0 c).after 2 t)
    ∗ owns (c : Thread nD τ) (st3 t) fullShare ((data m 0 c).after 3 t)
    ∗ owns (c : Thread nD τ) (st4 t) fullShare ((data m 0 c).after 4 t)
    ∗ owns (c : Thread nD τ) (st5 t) fullShare ((data m 0 c).after 5 t)
    ∗ owns (c : Thread nD τ) (st6 t) fullShare ((data m 0 c).after 6 t)
    ∗ owns (c : Thread nD τ) (st7 t) fullShare ((data m 0 c).after 7 t)
    ∗ owns (c : Thread nD τ) (st8 t) fullShare ((data m 0 c).after 8 t)
    ∗ owns (c : Thread nD τ) (st9 t) fullShare ((data m 0 c).after 9 t)
    ∗ owns (c : Thread nD τ) (st10 t) fullShare ((data m 0 c).after 10 t)
    ∗ owns (c : Thread nD τ) (st11 t) fullShare ((data m 0 c).after 11 t)
    ∗ owns (c : Thread nD τ) (st12 t) fullShare ((data m 0 c).after 12 t)
    ∗ owns (c : Thread nD τ) (st13 t) fullShare ((data m 0 c).after 13 t)
    ∗ owns (c : Thread nD τ) (st14 t) fullShare ((data m 0 c).after 14 t)
    ∗ (∃ X, ⌜leaves m c 15 t X⌝ ∗ owns (c : Thread nD τ) (st15 t) fullShare X))

/-- Before point 2 nothing is said of the output's buffer. -/
theorem leaves_early {t : Fin cfg0.N} (h : t.val < 2) (y : Vec Ideal S1024x512 .f32) : leaves m c 15 t y :=
  fun h2 => absurd h2 (by omega)

/-- The output's buffer given back. -/
theorem leaves_of (t : Fin cfg0.N) {X : Vec Ideal S1024x512 .f32} (h : leaves m c 15 t X) :
    iprop(owns (c : Thread nD τ) (st15 t) fullShare X) ⊢ (iprop(∃ X, ⌜leaves m c 15 t X⌝ ∗ owns (c : Thread nD τ) (st15 t) fullShare X) : sProp 𝕄) := by
  iintro H
  iexists X
  isplitr
  · ipureintro; exact h
  iexact H

/-- A point of the first phase does 1024 more atoms. -/
theorem done_step {t : ℕ} (h : t < 2) : doneBefore t = t * 1024 ∧ doneBefore (t + 1) = t * 1024 + 1024 := by
  unfold doneBefore; omega

/-- In the second phase all atoms are done. -/
theorem done_all {t : ℕ} (h : 2 ≤ t) : doneBefore t = 2048 ∧ doneBefore (t + 1) = 2048 := by
  unfold doneBefore; omega

/-- The carried buffers after a point of the first phase. -/
theorem filled_step {t : Fin cfg0.N} (h : t.val < 2) {s0 s1 s2 s3 s4} (hs : Filled (kInp m c) (doneBefore t.val) s0 s1 s2 s3 s4) :
    Filled (kInp m c) (doneBefore (t.val + 1))
      (VecWindow.put s0 (k0_off1 (grid0.coords t)) S1024x512.size
        (hStored (iblk m c 0 t) (iblk m c 1 t) (iblk m c 4 t) (iblk m c 5 t) (iblk m c 6 t) (iblk m c 7 t) (iblk m c 8 t)))
      (VecWindow.put s1 (k0_off1 (grid0.coords t)) S1024x512.size
        (k0_pay22 (hBlk (iblk m c 0 t) (iblk m c 1 t) (iblk m c 4 t) (iblk m c 5 t) (iblk m c 6 t) (iblk m c 7 t) (iblk m c 8 t))
          (anyBlk (iblk m c 0 t) (iblk m c 1 t) (iblk m c 2 t) (iblk m c 3 t) (iblk m c 13 t) (iblk m c 14 t)) (iblk m c 9 t)))
      (VecWindow.put s2 (k0_off4 (grid0.coords t)) S512x1024.size
        (k0_pay23 (hBlk (iblk m c 0 t) (iblk m c 1 t) (iblk m c 4 t) (iblk m c 5 t) (iblk m c 6 t) (iblk m c 7 t) (iblk m c 8 t)) (iblk m c 10 t)))
      (putV (grid0.coords t) s3 (hBlk (iblk m c 0 t) (iblk m c 1 t) (iblk m c 4 t) (iblk m c 5 t) (iblk m c 6 t) (iblk m c 7 t) (iblk m c 8 t)) (iblk m c 11 t))
      (VecWindow.put s4 (k0_off3 (grid0.coords t)) S1024x2048.size
        (biasBlk (iblk m c 0 t) (iblk m c 1 t) (iblk m c 2 t) (iblk m c 3 t) (iblk m c 13 t) (iblk m c 14 t))) := by
  rw [(done_step h).2]; rw [(done_step h).1] at hs; exact Filled.step m c t h hs

/-- The carried buffers after a point of the second phase. -/
theorem filled_keep {t : Fin cfg0.N} (h : 2 ≤ t.val) {s0 s1 s2 s3 s4} (hs : Filled (kInp m c) (doneBefore t.val) s0 s1 s2 s3 s4) :
    Filled (kInp m c) (doneBefore (t.val + 1)) s0 s1 s2 s3 s4 := by
  rw [(done_all h).2]; rwa [(done_all h).1] at hs

/-- What a point of the second phase leaves in the output's buffer. -/
theorem leaves_out {t : Fin cfg0.N} (h : 2 ≤ t.val) {s0 s1 s2 s3 s4} (i1 i2 i3) (hs : Filled (kInp m c) (doneBefore t.val) s0 s1 s2 s3 s4) :
    leaves m c 15 t (outBlk (VecWindow.window s0 (k0_off13 (grid0.coords t)) S1024x512.size i1)
      (VecWindow.window s1 (k0_off13 (grid0.coords t)) S1024x512.size i2) s2 s3
      (VecWindow.window s4 (k0_off14 (grid0.coords t)) S1024x2048.size i3) (iblk m c 12 t)) := by
  intro _ R r j hR
  refine (Filled.out m c t h i1 i2 i3 ((done_all h).1 ▸ hs) r j).trans ?_
  congr 1
  exact Fin.ext hR.symm

/-- The body at a point of the first phase. -/
theorem body_first (t : Fin cfg0.N) (h : t.val < 2) :
    pre m c t ⊢ wp frame (wpE (defs₀ (F := Ideal)) Variants.none c none) Set.univ (bodyAt0 t) (fun _ => post m c t) := by
  unfold pre post bodyAt0
  simp only [found0, left0, found1, left1, found2, left2, found3, left3, found4, left4, found5, left5, found6, left6, found7, left7, found8, left8, found9, left9, found10, left10, found11, left11, found12, left12, found13, left13, found14, left14]
  rw [show (data m 0 c).owesAt () t.succ = (data m 0 c).owesAt () t.castSucc from rfl,
    show (data m 0 c).Φ t.succ = iprop(carried m c (doneBefore (t.val + 1)) ∗ (∃ r, prngReg c r)) from rfl,
    show (data m 0 c).Φ t.castSucc = iprop(carried m c (doneBefore t.val) ∗ (∃ r, prngReg c r)) from rfl]
  rw [carried_eq m c (doneBefore t.val)]
  iintro ⟨⟨⟨%s0, %s1, %s2, %s3, %s4, %s5, %s6, %hs, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%y, -, H15⟩⟩
  iapply ((embed_run c (grid0.coords t) _ _ _ _ _ _ _ _ _ _ _ _ _ _ _ _ _ _ _ _ _ _ _ _ _ _ _ _ _ _ _ _ _ _ _ _ _ _ _ _ _ _ _ _ _ _ ((first_iff t).mpr h) (fun hc => absurd ((second_iff t).mp hc) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y s0 s1 s2 s3 s4 s5 s6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · iapply (carried_of m c (filled_step m c h hs))
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iapply (leaves_of m c t (leaves_early m c h y))
  iexact H15

/-- The body at a point of the second phase. -/
theorem body_second (t : Fin cfg0.N) (h : 2 ≤ t.val) :
    pre m c t ⊢ wp frame (wpE (defs₀ (F := Ideal)) Variants.none c none) Set.univ (bodyAt0 t) (fun _ => post m c t) := by
  unfold pre post bodyAt0
  simp only [found0, left0, found1, left1, found2, left2, found3, left3, found4, left4, found5, left5, found6, left6, found7, left7, found8, left8, found9, left9, found10, left10, found11, left11, found12, left12, found13, left13, found14, left14]
  rw [show (data m 0 c).owesAt () t.succ = (data m 0 c).owesAt () t.castSucc from rfl,
    show (data m 0 c).Φ t.succ = iprop(carried m c (doneBefore (t.val + 1)) ∗ (∃ r, prngReg c r)) from rfl,
    show (data m 0 c).Φ t.castSucc = iprop(carried m c (doneBefore t.val) ∗ (∃ r, prngReg c r)) from rfl]
  rw [carried_eq m c (doneBefore t.val)]
  iintro ⟨⟨⟨%s0, %s1, %s2, %s3, %s4, %s5, %s6, %hs, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%y, -, H15⟩⟩
  iapply ((attend_run c (grid0.coords t) _ _ _ _ _ _ _ _ _ _ _ _ _ _ _ _ _ _ _ _ _ _ _ _ _ _ _ _ _ _ _ _ _ _ _ _ _ _ _ _ _ _ _ _ _ _ (fun hc => absurd ((first_iff t).mp hc) (by omega)) ((second_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y s0 s1 s2 s3 s4 s5 s6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · iapply (carried_of m c (filled_keep m c h hs))
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iapply (leaves_of m c t (leaves_out m c h _ _ _ hs))
  iexact H15

/-- The body table's row at point `t`. -/
theorem row_eq (t : Fin cfg0.N) : defs₀ (F := Ideal) .tc cfg0.body (cfg0.bodyArgs t (cfg0.slots t)) = bodyAt0 t := by
  unfold defs₀; rw [Defs.onTc_tc]

/-- The body obligation, at every point. -/
theorem obligation : Pipeline.BodyObligationRel (data m 0 c) (defs₀ (F := Ideal)) Variants.none () Set.univ related (leaves m c) := fun t => by
  rw [bigSep_W0, bigSep_W0, row_eq]
  have hb : pre m c t ⊢ wp frame (wpE (defs₀ (F := Ideal)) Variants.none c none) Set.univ (bodyAt0 t) (fun _ => post m c t) :=
    (lt_or_ge t.val 2).elim (body_first m c t) (body_second m c t)
  exact triple_restated hb rfl .rfl fun _ => .rfl

end Cert.Proof.Attn

end
-- ==== Proof.Run.lean ====
module

public import proofs.«01_k».proof.Proof.Launch
public import Idealize.ShloMosaic.Lib.Pipeline.ArrRel
public import Idealize.ShloMosaic.Lib.Pipeline.ValueKit

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The kernel's run over the extended reals: the arguments unchanged, the result named -/

local notation "𝕄" => MT nD τ sig Unit (Elt Ideal) ℕ (UR sig nD τ) ℕ

variable (m : (ℓ : Loc nD τ sig) → Buf (Elt Ideal) ℓ) (ρ : Dev nD → PrngReg)

/-- The relational proof data of the launch. -/
def rdata (c : Dev nD) : Pipeline.RDat τ (Elt Ideal) Unit ℕ (UR sig nD τ) ℕ cfg0 c := (data m 0 c).toRRel related (leaves m c)

/-- Before the first point nothing is claimed of the carried buffers. -/
theorem enter (c : Dev nD) : (Pipeline.ΦA spec0 c : sProp 𝕄) ⊢ iprop(carried m c (doneBefore 0) ∗ (∃ r, prngReg c r)) := by
  rw [frame_inv]
  iintro ⟨⟨⟨%s0, H0⟩, ⟨%s1, H1⟩, ⟨%s2, H2⟩, ⟨%s3, H3⟩, ⟨%s4, H4⟩, ⟨%s5, H5⟩, ⟨%s6, H6⟩⟩, Hg⟩
  isplitr [Hg]
  · iapply (carried_of m c (n := doneBefore 0) (s0 := s0) (s1 := s1) (s2 := s2) (s3 := s3) (s4 := s4) (s5 := s5) (s6 := s6)
      ⟨fun r _ h => absurd h (Nat.not_lt_zero _), fun r _ h => absurd h (Nat.not_lt_zero _), fun _ r h => absurd h (Nat.not_lt_zero _),
        fun r _ h => absurd h (Nat.not_lt_zero _), fun r _ h => absurd h (Nat.not_lt_zero _)⟩)
    iframe
  iexact Hg

/-- After the last point the carried buffers are forgotten. -/
theorem leave (c : Dev nD) (n : ℕ) : (iprop(carried m c n ∗ (∃ r, prngReg c r)) : sProp 𝕄) ⊢ Pipeline.ΦA spec0 c := by
  rw [frame_inv, carried_eq]
  iintro ⟨⟨%s0, %s1, %s2, %s3, %s4, %s5, %s6, -, H0, H1, H2, H3, H4, H5, H6⟩, Hg⟩
  isplitr [Hg]
  · isplitl [H0]; · iexists s0; iexact H0
    isplitl [H1]; · iexists s1; iexact H1
    isplitl [H2]; · iexists s2; iexact H2
    isplitl [H3]; · iexists s3; iexact H3
    isplitl [H4]; · iexists s4; iexact H4
    isplitl [H5]; · iexists s5; iexact H5
    iexists s6; iexact H6
  iexact Hg

set_option backward.isDefEq.respectTransparency.types false in
/-- The run: what the arrays hold at the end, relationally, and every counter zero. -/
theorem run_rel : θ_run defs (onTc (τ := τ) (main (F := Ideal))) (s₀ m ρ)
    (fun r => Pipeline.RDat.FramePost (cfgs 0) (rdata m) (V m) r ∧ r.2.sem = fun _ => 0) :=
  Pipeline.RDat.θ_run_frame_track cfgs (0 : Fin 1) launch0 defs₀ Variants.none (rdata m) m ρ main
    (hbody := fun c => (obligation m c).toRRel) (hshare := fun c => (data m 0 c).share_full fun _ => rfl)
    (howed := fun _ _ => rfl) (V := V m) (hmain := hmain m Variants.none) (hA := fun c w => data_A m c w)
    (hin := fun c => enter m c) (hout := fun c => leave m c _) (Q' := _) (hQ' := fun _ h => h)

/-- The output's block is written back only from point 2 on. -/
theorem late : ∀ t : Fin cfg0.N, (cfg0.win 15).flush t = true → 2 ≤ t.val :=
  (by decide +kernel : ∀ t : Fin grid0.N, win0_15.flush t = true → 2 ≤ t.val)

/-- There it is the block of the rows done at that point. -/
theorem late_index : ∀ t : Fin cfg0.N, 2 ≤ t.val → win0_15.index t 0 = t.val - 2 :=
  (by decide +kernel : ∀ t : Fin grid0.N, 2 ≤ t.val → win0_15.index t 0 = t.val - 2)

/-- The result, as an array. -/
def result (c : Dev nD) : Vec Ideal S2048x512 .f32 := fun i => kOut (kInp m c) (i 0) (i 1)

/-- An index of two coordinates is the pair of its coordinates. -/
theorem pair_eta (y : S1024x512.Idx) : y = ix2 (show Fin 1024 from y 0) (show Fin 512 from y 1) := by
  funext a; fin_cases a <;> rfl

/-- Exact data whose output blocks are as `leaves` says end with the result in the output array. -/
theorem result_of (c : Dev nD) (d : Dat τ (Elt Ideal) Unit ℕ (UR sig nD τ) ℕ cfg0 c)
    (hd : ∀ t, (cfg0.win 15).flush t = true → leaves m c 15 t (d.after 15 t)) : d.arrAt 15 cfg0.N = result m c := by
  refine d.arrAt_eq_of_covers 15 _ (by decide +kernel) fun t hf y => ?_
  have h2 := late t hf
  have e0 := win0_15.rect_emb_val t y 0
  rw [late_index t h2] at e0
  have e1 := win0_15.rect_emb_val_of_index_zero t 1 rfl y
  have hl := hd t hf h2 ((win0_15.rect t).emb y 0) (show Fin 1024 from y 0) (show Fin 512 from y 1) e0
  rw [← pair_eta y] at hl
  refine Eq.trans ?_ (hl.trans ?_)
  · rfl
  · exact congrArg (kOut (kInp m c) _) (Fin.ext e1.symm)

/-- The run, read: the result array holds the result, and each argument array what it held. -/
theorem run : θ_run defs (onTc (τ := τ) (main (F := Ideal))) ⟨m, fun _ => 0, ρ⟩ (fun r => (∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ⟨fun c => ?_, h.2⟩) (run_rel m ρ)
  obtain ⟨after, hL, hA⟩ := Pipeline.RDat.FramePost.exists_exact h.1 c
  have arr := fun w hw => Pipeline.RDat.FramePost.arr_in h.1 c w hw
  have rest := fun b hb => (h.1 c).2 b hb
  refine ⟨(hA 15).trans (result_of m c _ fun t ht => ?_), ?_⟩
  · exact (data m 0 c).toRRel_leaves (fgt := related) (w := (15 : Fin cfg0.W)) rfl (hL 15 t ht)
  exact ⟨(arr 0 rfl).trans ((data_A m c 0).trans (V_main_arg0 m c)),
    (arr 1 rfl).trans ((data_A m c 1).trans (V_main_arg1 m c)),
    (arr 4 rfl).trans ((data_A m c 4).trans (V_main_arg2 m c)),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c),
    (arr 8 rfl).trans ((data_A m c 8).trans (V_main_arg6 m c)),
    (rest main_arg7 (Pipeline.mem_restRefs_of main_arg7 (by decide) (by decide))).trans (V_main_arg7 m c),
    (rest main_arg8 (Pipeline.mem_restRefs_of main_arg8 (by decide) (by decide))).trans (V_main_arg8 m c),
    (rest main_arg9 (Pipeline.mem_restRefs_of main_arg9 (by decide) (by decide))).trans (V_main_arg9 m c),
    (rest main_arg10 (Pipeline.mem_restRefs_of main_arg10 (by decide) (by decide))).trans (V_main_arg10 m c),
    (rest main_arg11 (Pipeline.mem_restRefs_of main_arg11 (by decide) (by decide))).trans (V_main_arg11 m c)⟩

end Cert.Proof.Attn

end
-- ==== Proof.Reals.lean ====
module

public import proofs.«01_k».proof.Proof.Spec

@[expose] public section

set_option maxRecDepth 16384

noncomputable section

namespace Cert.Proof.Attn

open Idealize.ShloMosaic

/-! # From finite inputs every stage up to the projections is finite -/

/-- An extended real that is a real number. -/
def IsReal (x : EReal) : Prop := ∃ r : ℝ, x = (r : EReal)

/-- Sums of two finite numbers are finite. -/
theorem IsReal.add {x y : EReal} : IsReal x → IsReal y → IsReal (x + y) := by
  rintro ⟨a, rfl⟩ ⟨b, rfl⟩; exact ⟨a + b, by push_cast; rfl⟩

/-- Differences of finite numbers are finite. -/
theorem IsReal.sub {x y : EReal} : IsReal x → IsReal y → IsReal (x - y) := by
  rintro ⟨a, rfl⟩ ⟨b, rfl⟩; exact ⟨a - b, by push_cast; rfl⟩

/-- Products of finite numbers are finite. -/
theorem IsReal.mul {x y : EReal} : IsReal x → IsReal y → IsReal (x * y) := by
  rintro ⟨a, rfl⟩ ⟨b, rfl⟩; exact ⟨a * b, by push_cast; rfl⟩

/-- A sum of reals, taken among the extended reals, is the real sum. -/
theorem coe_sum {ι : Type} [Fintype ι] (f : ι → ℝ) : ∑ i, (f i : EReal) = ((∑ i, f i : ℝ) : EReal) := by
  classical
  refine Finset.induction_on (motive := fun s => ∑ i ∈ s, (f i : EReal) = ((∑ i ∈ s, f i : ℝ) : EReal)) Finset.univ (by simp) fun a s ha ih => ?_
  rw [Finset.sum_insert ha, Finset.sum_insert ha, ih, EReal.coe_add]

/-- Finite sums of finite numbers are finite. -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- A real divided by a nonzero real. -/
theorem div_real (x : ℝ) {y : ℝ} (h : y ≠ 0) : Ideal.div (x : EReal) (y : EReal) = ((x / y : ℝ) : EReal) := by
  rw [Ideal.div_coe h, ← EReal.coe_mul]; congr 1; ring

/-- The number of features is 512. -/
theorem width_eq : width = ((512 : ℝ) : EReal) := by
  simp [width, Ideal.ofBits, Ideal.ieee]
  rw [← EReal.coe_mul]; norm_num

/-- The guard is a positive real. -/
theorem guard_pos : ∃ g : ℝ, 0 < g ∧ guard = (g : EReal) := by
  refine ⟨guard.toReal, ?_, ?_⟩
  all_goals simp [guard, Ideal.ofBits, Ideal.ieee]
  all_goals (try rw [← EReal.coe_mul]); norm_num

/-- The float inputs that queries and keys are made of, those of the normalised row apart, are finite. -/
structure Inp.Finite (X : Inp) : Prop where
  P : ∀ r k, IsReal (X.P r k)
  g : ∀ j, IsReal (X.g j)
  b : ∀ j, IsReal (X.b j)
  Wp : ∀ k j, IsReal (X.Wp k j)
  Wq : ∀ k j, IsReal (X.Wq k j)
  Wk : ∀ k j, IsReal (X.Wk k j)

/-- The mean of a finite row. -/
theorem mean_fin {x : Fin 512 → EReal} (h : ∀ j, IsReal (x j)) : IsReal (mean x) := by
  obtain ⟨s, hs⟩ := IsReal.sum h
  exact ⟨s / 512, by rw [mean, hs, width_eq, div_real _ (by norm_num)]⟩

/-- The variance of a finite row is finite and not negative. -/
theorem variance_fin {x : Fin 512 → EReal} (h : ∀ j, IsReal (x j)) : ∃ v : ℝ, 0 ≤ v ∧ variance x = (v : EReal) := by
  choose d hd using fun j => (h j).sub (mean_fin h)
  refine ⟨(∑ j, d j * d j) / 512, by have := Finset.sum_nonneg fun j (_ : j ∈ Finset.univ) => mul_self_nonneg (d j); positivity, ?_⟩
  rw [variance, width_eq, ← div_real _ (by norm_num), ← coe_sum]
  congr 1
  exact Finset.sum_congr rfl fun j _ => by rw [hd, EReal.coe_mul]

/-- A sum with an entry `⊥` is `⊥`. -/
theorem sum_bot {n : ℕ} {f : Fin n → EReal} {i : Fin n} (h : f i = ⊥) : ∑ j, f j = ⊥ := by
  rw [← Finset.add_sum_erase _ _ (Finset.mem_univ i), h, EReal.bot_add]

/-- A sum with an entry `⊤` and none `⊥` is `⊤`. -/
theorem sum_top {n : ℕ} {f : Fin n → EReal} {i : Fin n} (h : f i = ⊤) (hb : ∀ j, f j ≠ ⊥) : ∑ j, f j = ⊤ := by
  classical
  rw [← Finset.add_sum_erase _ _ (Finset.mem_univ i), h]
  refine EReal.top_add_of_ne_bot ?_
  refine Finset.induction_on (motive := fun s => ∑ j ∈ s, f j ≠ ⊥) _ (by simp) fun a s ha ih => ?_
  rw [Finset.sum_insert ha]
  exact fun e => (EReal.add_eq_bot_iff.1 e).elim (hb a) ih

/-- Dividing by the number of features keeps an infinity. -/
theorem div_width_top : Ideal.div ⊤ width = ⊤ := by
  rw [width_eq, Ideal.div_coe (by norm_num), EReal.top_mul_coe_of_pos (by norm_num)]

/-- The same of the other one. -/
theorem div_width_bot : Ideal.div ⊥ width = ⊥ := by
  rw [width_eq, Ideal.div_coe (by norm_num), EReal.bot_mul_coe_of_pos (by norm_num)]

/-- A row with an infinite entry has an infinite mean. -/
theorem mean_infinite {x : Fin 512 → EReal} (h : ¬ ∀ j, IsReal (x j)) : mean x = ⊤ ∨ mean x = ⊥ := by
  by_cases hb : ∃ j, x j = ⊥
  · obtain ⟨j, hj⟩ := hb
    exact Or.inr (by rw [mean, sum_bot hj, div_width_bot])
  · push Not at hb h
    obtain ⟨j, hj⟩ := h
    have ht : x j = ⊤ := by
      by_contra ht
      exact hj ⟨_, (EReal.coe_toReal ht (hb j)).symm⟩
    exact Or.inl (by rw [mean, sum_top ht hb, div_width_top])

/-- A deviation from an infinite mean has the square `⊤`. -/
theorem square_top {x y : EReal} (h : y = ⊤ ∨ y = ⊥) : (x - y) * (x - y) = ⊤ := by
  rcases h with rfl | rfl
  · rw [EReal.sub_top, EReal.bot_mul_bot]
  · induction x with
    | bot => rfl
    | coe r => rfl
    | top => rfl

/-- A row normalised is finite if its scales and shifts are: an infinite entry makes the deviation infinite, and the quotient by it is zero. -/
theorem normed_fin {x g b : Fin 512 → EReal} (hg : ∀ j, IsReal (g j)) (hb : ∀ j, IsReal (b j)) (j : Fin 512) :
    IsReal (normed x g b j) := by
  obtain ⟨e, he, ee⟩ := guard_pos
  refine (IsReal.mul ?_ (hg j)).add (hb j)
  by_cases h : ∀ j, IsReal (x j)
  · obtain ⟨v, hv, ev⟩ := variance_fin h
    obtain ⟨d, hd⟩ := (h j).sub (mean_fin h)
    rw [ev, ee, hd, ← EReal.coe_add, Ideal.sqrt_coe, if_neg (by linarith), div_real _ (Real.sqrt_pos.2 (by linarith)).ne']
    exact ⟨_, rfl⟩
  · have hv : variance x = ⊤ := by
      rw [variance, sum_top (i := j) (square_top (mean_infinite h)) (fun i => by rw [square_top (mean_infinite h)]; exact top_ne_bot), div_width_top]
    rw [hv, ee, EReal.top_add_of_ne_bot (EReal.coe_ne_bot e), show Ideal.sqrt ⊤ = ⊤ from rfl, Ideal.div, if_neg (show (⊤ : EReal) ≠ 0 by simp)]
    exact ⟨0, by rw [EReal.inv_top, mul_zero]; rfl⟩

/-- The hidden state is finite. -/
theorem hid_fin {X : Inp} (H : X.Finite) (r : Fin 2048) (j : Fin 512) : IsReal (hid X r j) := by
  have hn := normed_fin (x := lin (X.S r) X.Ws X.bs) H.g H.b j
  refine (hn.mul ?_).add (IsReal.sum fun k => (H.P r k).mul (H.Wp k j))
  obtain ⟨a, ha⟩ := hn
  rw [ha, Ideal.logistic_coe]
  exact ⟨_, rfl⟩

/-- A projection of a finite row is finite. -/
theorem proj_fin {h : Fin 512 → EReal} {W : Fin 512 → Fin 512 → EReal} (hh : ∀ j, IsReal (h j)) (hW : ∀ k j, IsReal (W k j)) (j : Fin 512) :
    IsReal (proj h W j) := IsReal.sum fun c => (hh c).mul (hW c j)

end Cert.Proof.Attn

end
-- ==== Proof.Equation.lean ====
module

public import proofs.«01_k».proof.Proof.Reals

@[expose] public section

set_option maxRecDepth 16384

noncomputable section

namespace Cert.Proof.Attn

open Idealize.ShloMosaic

/-! # The two ways of computing the attention agree on finite inputs

A row with a partner: the kernel's weight at a partner is `2 ^ (s / (8 ln 2)) = exp (s / 8)`, at any other atom `2 ^ ⊥ = 0`; the
reference's differ by the common factor `exp (-M)`, which the quotient cancels. A row without one: the kernel's scaled query and
its bias are both zero, every weight is one, and the quotient is the plain average. -/

/-- The reference's root of the head's width is 8. -/
theorem eight_eq : eight = ((8 : ℝ) : EReal) := by
  simp [eight, Ideal.ofBits, Ideal.ieee]
  rw [← EReal.coe_mul]; norm_num

/-- The uniform weight is one over the number of atoms. -/
theorem uniform_eq : Ideal.ofBits .f32 0x3A000000#32 = ((1 / 2048 : ℝ) : EReal) := by
  simp [Ideal.ofBits, Ideal.ieee]
  rw [← EReal.coe_mul]; norm_num

/-- A power of two with the folded scale is a power of `e`. -/
theorem exp2_scaled (s : ℝ) : Ideal.exp2 ((s * (8 * Real.log 2)⁻¹ : ℝ) : EReal) = ((Real.exp (s / 8) : ℝ) : EReal) := by
  have hl : Real.log 2 ≠ 0 := (Real.log_pos (by norm_num)).ne'
  rw [Ideal.exp2_coe]
  congr 1
  show (2 : ℝ) ^ (s * (8 * Real.log 2)⁻¹) = _
  rw [Real.rpow_def_of_pos (by norm_num)]
  congr 1
  field_simp

/-- The largest of finitely many extended reals, none `⊤` and one of them real, is real. -/
theorem fold_max_real {n : ℕ} (f : Fin n → EReal) (ht : ∀ i, f i ≠ ⊤) (i : Fin n) (hi : f i ≠ ⊥) :
    IsReal (Finset.univ.fold max ⊥ f) := by
  have h1 : Finset.univ.fold max ⊥ f < ⊤ := (Finset.fold_max_lt _).2 ⟨bot_lt_top, fun x _ => lt_top_iff_ne_top.2 (ht x)⟩
  have h2 : f i ≤ Finset.univ.fold max ⊥ f := (Finset.le_fold_max _).2 (Or.inr ⟨i, Finset.mem_univ _, le_rfl⟩)
  have h3 : Finset.univ.fold max ⊥ f ≠ ⊥ := fun h => hi (le_bot_iff.1 (h ▸ h2))
  exact ⟨_, (EReal.coe_toReal h1.ne h3).symm⟩

/-- A real that is not negative multiplies a sum entry by entry. -/
theorem mul_sum_real {n : ℕ} {a : ℝ} (ha : 0 ≤ a) (f : Fin n → EReal) : (a : EReal) * ∑ m, f m = ∑ m, (a : EReal) * f m := by
  classical
  refine Finset.induction_on (motive := fun s => (a : EReal) * ∑ m ∈ s, f m = ∑ m ∈ s, (a : EReal) * f m) Finset.univ (by simp) fun i s hi ih => ?_
  rw [Finset.sum_insert hi, Finset.sum_insert hi, EReal.left_distrib_of_nonneg_of_ne_top (EReal.coe_nonneg.2 ha) (EReal.coe_ne_top a), ih]

/-- A weighted average as one quotient is the sum with the weights divided first. -/
theorem average {n : ℕ} {W V O : Fin n → EReal} {w : Fin n → ℝ} (hW : ∀ m, W m = (w m : EReal)) (hO : ∀ m, O m = 1) (hw : 0 < ∑ m, w m) :
    Ideal.div (∑ m, W m * V m) (∑ m, W m * O m) = ∑ m, ((w m / ∑ m', w m' : ℝ) : EReal) * V m := by
  have e : ∑ m, W m * O m = ((∑ m, w m : ℝ) : EReal) := by
    rw [← coe_sum]; exact Finset.sum_congr rfl fun m _ => by rw [hW, hO, mul_one]
  rw [e, Ideal.div_coe hw.ne', mul_comm, mul_sum_real (by positivity)]
  exact Finset.sum_congr rfl fun m _ => by rw [hW, ← mul_assoc, ← EReal.coe_mul, one_div_mul_eq_div]

variable {X : Inp} (H : X.Finite)

/-- The unscaled score of two atoms in a head. -/
def dot (X : Inp) (hd : Fin 8) (r m : Fin 2048) : EReal :=
  ∑ e : Fin 64, proj (hid X r) X.Wq ⟨64 * hd.val + e.val, by omega⟩ * proj (hid X m) X.Wk ⟨64 * hd.val + e.val, by omega⟩

include H

/-- Queries are finite. -/
theorem q_fin (r : Fin 2048) (j : Fin 512) : IsReal (proj (hid X r) X.Wq j) := proj_fin (hid_fin H r) H.Wq j

/-- Keys are finite. -/
theorem k_fin (r : Fin 2048) (j : Fin 512) : IsReal (proj (hid X r) X.Wk j) := proj_fin (hid_fin H r) H.Wk j

/-- Scores are finite. -/
theorem dot_fin (hd : Fin 8) (r m : Fin 2048) : IsReal (dot X hd r m) := IsReal.sum fun e => (q_fin H r _).mul (k_fin H m _)

/-- The kernel's score: the score times the scale and the row's flag. -/
theorem scaled_dot (hd : Fin 8) (r m : Fin 2048) (a : ℝ) (ha : qScale * anyOne X r = (a : EReal)) {s : ℝ} (hs : dot X hd r m = (s : EReal)) :
    ∑ e : Fin 64, kQ X r ⟨64 * hd.val + e.val, by omega⟩ * kK X m ⟨64 * hd.val + e.val, by omega⟩ = ((s * a : ℝ) : EReal) := by
  choose q hq using q_fin H r
  choose k hk using k_fin H m
  have e1 : ∀ e : Fin 64, kQ X r ⟨64 * hd.val + e.val, by omega⟩ * kK X m ⟨64 * hd.val + e.val, by omega⟩
      = ((q ⟨64 * hd.val + e.val, by omega⟩ * k ⟨64 * hd.val + e.val, by omega⟩ * a : ℝ) : EReal) := fun e => by
    rw [kQ, kK, ha, hq, hk, ← EReal.coe_mul, ← EReal.coe_mul]; congr 1; ring
  have e2 : dot X hd r m = ((∑ e : Fin 64, q ⟨64 * hd.val + e.val, by omega⟩ * k ⟨64 * hd.val + e.val, by omega⟩ : ℝ) : EReal) := by
    rw [dot, ← coe_sum]; exact Finset.sum_congr rfl fun e _ => by rw [hq, hk, EReal.coe_mul]
  rw [Finset.sum_congr rfl fun e _ => e1 e, coe_sum, ← Finset.sum_mul]
  rw [e2] at hs
  rw [EReal.coe_eq_coe_iff.1 hs]

open Classical in
/-- The kernel's weights of a row with a partner. -/
theorem weight_partnered (hd : Fin 8) (r m : Fin 2048) (hp : partnered X r) {s : ℝ} (hs : dot X hd r m = (s : EReal)) :
    kWeight (kQ X r) (fun c m => kK X m c) (kBias X r) hd m = ((if pairs X r m then Real.exp (s / 8) else 0 : ℝ) : EReal) := by
  have ha : qScale * anyOne X r = (((8 * Real.log 2)⁻¹ : ℝ) : EReal) := by rw [anyOne, if_pos hp, mul_one, qScale]
  rw [kWeight, scaled_dot H hd r m _ ha hs, kBias]
  split_ifs with h
  · rw [add_zero, exp2_scaled]
  · rw [anyOne, if_pos hp, mul_one, EReal.add_bot, Ideal.exp2_bot, EReal.coe_zero]

/-- The kernel's weights of a row without a partner. -/
theorem weight_alone (hd : Fin 8) (r m : Fin 2048) (hp : ¬partnered X r) :
    kWeight (kQ X r) (fun c m => kK X m c) (kBias X r) hd m = ((1 : ℝ) : EReal) := by
  have ha : qScale * anyOne X r = ((0 : ℝ) : EReal) := by rw [anyOne, if_neg hp, mul_zero, EReal.coe_zero]
  obtain ⟨s, hs⟩ := dot_fin H hd r m
  rw [kWeight, scaled_dot H hd r m _ ha hs, kBias, if_neg fun h => hp ⟨m, h⟩, anyOne, if_neg hp, mul_zero, mul_zero, add_zero,
    Ideal.exp2_coe]
  congr 1
  exact Real.rpow_zero 2

open Classical in
/-- The reference's exponentials of a row with a partner: the kernel's weights times a common factor. -/
theorem exps_partnered (hd : Fin 8) (r : Fin 2048) (hp : partnered X r) (s : Fin 2048 → ℝ) (hs : ∀ m, dot X hd r m = (s m : EReal)) :
    ∃ f : ℝ, 0 < f ∧ ∀ m, rExp X hd r m = (((if pairs X r m then Real.exp (s m / 8) else 0) * f : ℝ) : EReal) := by
  have hsc : ∀ m, rScore X hd r m = if pairs X r m then ((s m / 8 : ℝ) : EReal) else ⊥ := fun m => by
    rw [rScore]
    split_ifs with h
    · rw [← div_real _ (by norm_num), ← eight_eq, ← hs m, dot]
    · rfl
  obtain ⟨m₀, h₀⟩ := hp
  obtain ⟨M, hM⟩ : IsReal (rMax X hd r) := by
    refine fold_max_real _ (fun m => ?_) m₀ ?_
    · rw [hsc]; split_ifs
      · exact EReal.coe_ne_top _
      · exact bot_ne_top
    · rw [hsc, if_pos h₀]; exact EReal.coe_ne_bot _
  refine ⟨Real.exp (-M), Real.exp_pos _, fun m => ?_⟩
  rw [rExp, hsc, hM]
  split_ifs with h
  · rw [← EReal.coe_sub, Ideal.exp_coe, ← Real.exp_add]; congr 2
  · rw [EReal.bot_sub, Ideal.exp_bot, zero_mul, EReal.coe_zero]

/-- One head's context, read off the kernel's weights and off the reference's, for one column of values and a column of ones. -/
theorem context (hd : Fin 8) (r : Fin 2048) {V O : Fin 2048 → EReal} (hO : ∀ m, O m = 1) :
    Ideal.div (∑ m, kWeight (kQ X r) (fun c m => kK X m c) (kBias X r) hd m * V m)
        (∑ m, kWeight (kQ X r) (fun c m => kK X m c) (kBias X r) hd m * O m)
      = ∑ m, rAtt X hd r m * V m := by
  classical
  choose s hs using dot_fin H hd r
  by_cases hp : partnered X r
  · obtain ⟨f, hf, he⟩ := exps_partnered H hd r hp s hs
    have hw : 0 < ∑ m, (if pairs X r m then Real.exp (s m / 8) else 0) := by
      obtain ⟨m₀, h₀⟩ := hp
      refine Finset.sum_pos' (fun m _ => ?_) ⟨m₀, Finset.mem_univ _, ?_⟩
      · split_ifs
        · exact (Real.exp_pos _).le
        · exact le_rfl
      · rw [if_pos h₀]; exact Real.exp_pos _
    refine (average (fun m => weight_partnered H hd r m hp (hs m)) hO hw).trans (Finset.sum_congr rfl fun m _ => ?_)
    congr 1
    rw [rAtt, if_pos hp, he, Finset.sum_congr rfl fun m _ => he m, coe_sum, ← Finset.sum_mul,
      div_real _ (mul_pos hw hf).ne', mul_div_mul_right _ _ hf.ne']
  · have hw : 0 < ∑ _m : Fin 2048, (1 : ℝ) := by simp
    refine (average (fun m => weight_alone H hd r m hp) hO hw).trans (Finset.sum_congr rfl fun m _ => ?_)
    congr 1
    rw [rAtt, if_neg hp, uniform_eq]
    congr 1
    simp

omit H in
/-- The widened values at a head's value columns. -/
theorem vcol_value (m : Fin 2048) (c : Fin 512) :
    kVCol X m ⟨128 * (c.val / 64) + c.val % 64, by omega⟩ = kV X m c := by
  unfold kVCol kVAug
  have h1 : (128 * (c.val / 64) + c.val % 64) % 128 = c.val % 64 := by omega
  have h2 : (128 * (c.val / 64) + c.val % 64) / 128 = c.val / 64 := by omega
  simp only [h1, h2]
  rw [dif_pos (by omega)]
  congr 1
  exact Fin.ext (by show 64 * (c.val / 64) + c.val % 64 = c.val; omega)

omit H in
/-- The widened values at a head's column of ones. -/
theorem vcol_one (m : Fin 2048) (hd : Fin 8) : kVCol X m ⟨128 * hd.val + 64, by omega⟩ = 1 := by
  unfold kVCol kVAug
  have h1 : (128 * hd.val + 64) % 128 = 64 := by omega
  simp only [h1]
  rw [dif_neg (by omega), if_pos trivial]

/-- The two results agree. -/
theorem out_eq (r : Fin 2048) (j : Fin 512) : kOut X r j = rOut X r j := by
  unfold kOut kOutRow rOut
  congr 1
  refine Finset.sum_congr rfl fun c _ => ?_
  congr 1
  refine Eq.trans ?_ (context H _ r (V := fun m => kV X m c) (fun m => vcol_one (X := X) m ⟨c.val / 64, by omega⟩))
  exact congrArg (Ideal.div · _) (Finset.sum_congr rfl fun m _ => congrArg _ (vcol_value m c))

end Cert.Proof.Attn

end
-- ==== Proof.Finite.lean ====
module

public import proofs.«01_k».proof.Defs
public import proofs.«01_k».proof.Proof.Gen.Pre_finite
public import proofs.«01_k».proof.Proof.Inputs
public import proofs.«01_k».proof.Proof.Reals
public import Idealize.ShloMosaic.Lib.ReduceAll
public import Idealize.ShloMosaic.Lib.ValueIdx

@[expose] public section

set_option maxRecDepth 16384

noncomputable section

namespace Cert.Proof.Attn

open Idealize.ShloMosaic Idealize.ShloMosaic.TcCoe

/-! # The precondition, read: the entries it speaks of are real numbers -/

/-- The literal the precondition compares with is `+∞`. -/
theorem top_eq : Ideal.ofBits .f32 0x7F800000#32 = ⊤ := by
  simp [Ideal.ofBits, Ideal.ieee]

/-- A value whose absolute value compares below `+∞` is a real number. -/
theorem isReal_of_cmp {x : EReal} (h : Ideal.cmp .olt (max x (-x)) (Ideal.ofBits .f32 0x7F800000#32) = 1#1) : IsReal x := by
  rw [top_eq] at h
  induction x with
  | bot => simp [Ideal.cmp] at h
  | coe r => exact ⟨r, rfl⟩
  | top => simp [Ideal.cmp] at h

/-- The shape without axes has one index. -/
instance : Subsingleton (Shape.Idx ⟨0, ![]⟩) := ⟨fun _ _ => funext fun a => a.elim0⟩

/-- One conjunct of the precondition: an array all of whose absolute values are below `+∞` holds real numbers only. -/
theorem all_real {s u : Shape} {axes : List (Fin s.rank)} {dims : Fin u.rank → Fin s.rank} {a : FVec Ideal s .f32}
    {hb : u.BroadcastsInDim s dims} {hr : s.ReducesTo axes u} {hu : 0 < u.numel} [Subsingleton u.Idx] {j : u.Idx}
    (e : Host.reduce IntOp.andi (cmpf .olt (Host.absf a) (broadcastInDim s dims hb (constant u .f32 0x7F800000#32))) (constantI u 1 1#1) hr hu j = 1#1)
    (i : s.Idx) : IsReal (a i) :=
  isReal_of_cmp (Host.reduce_andi_all _ _ hr hu j e i)

variable (m : (ℓ : Loc Cert.KernelIdeal.nD Cert.KernelIdeal.τ Cert.KernelIdeal.sig) → Buf (Elt Ideal) ℓ)

/-- Under the precondition the kernel's features, scales, shifts and weights of queries and keys are real numbers. -/
theorem kInp_finite (h : Cert.Pre_KernelIdeal_finite (hPre_finite := Cert.Pre_finite.Gen.facts) m) (c : Dev Cert.KernelIdeal.nD) : (kInp m c).Finite := by
  have e := congrFun (h c) (fun a => a.elim0)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun _ _ => all_real h0 _, fun _ => all_real h1 _, fun _ => all_real h2 _, fun _ _ => all_real h3 _, fun _ _ => all_real h4 _,
    fun _ _ => all_real h5 _⟩

end Cert.Proof.Attn

end
-- ==== Proof.RefStages.lean ====
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.Attn.Ref

open Idealize.ShloMosaic Idealize.ShloMosaic.TcCoe Idealize.ShloMosaic.Tactic
open Cert.ReferenceIdeal Cert.ReferenceIdeal.Gen

variable {F : FTy → Type} [FloatOps F] [Named F]

/-! # The reference's result, in stages -/

/-- The structural features through their linear map. -/
def rLin (a1 : Vec F S2048x4 .f32) (a2 : Vec F S4x512 .f32) (a3 : Vec F S512 .f32) : FVec F S2048x512 .f32 :=
  addf (Host.dotGeneral dot_S2048x4_S4x512_S2048x512_1_0_0_1_n_n none a1 a2) (broadcastInDim S2048x512 ![0, 1] bcast_S1x512_S2048x512_0_1 (broadcastInDim S1x512 ![1] bcast_S512_S1x512_1 a3))

/-- The rows' means. -/
def rMean (X : FVec F S2048x512 .f32) : FVec F S2048x1 .f32 :=
  Host.divf (broadcastInDim S2048x1 ![0] bcast_S2048_S2048x1_0 (Host.reduceAdd X (constant S_ .f32 0x00000000#32) reducesTo_S2048x512_S2048_d1 h_S_)) (broadcastInDim S2048x1 ![] bcast_S_S2048x1 (constant S_ .f32 0x44000000#32))

/-- The rows' variances. -/
def rVar (X : FVec F S2048x512 .f32) : FVec F S2048x1 .f32 :=
  select (broadcastInDim S2048x1 ![] bcast_S_S2048x1 (cmpf .ogt (subf (constant S_ .f32 0x44000000#32) (sitofp .f32 (constantI S_ 32 0#32)) : (⟨S_, .f32⟩ : BufTy).Contents (Elt F)) (constant S_ .f32 0x00000000#32))) (Host.divf (broadcastInDim S2048x1 ![0] bcast_S2048_S2048x1_0 (Host.reduceAdd (mulf (subf X (broadcastInDim S2048x512 ![0, 1] bcast_S2048x1_S2048x512_0_1 (rMean X))) (subf X (broadcastInDim S2048x512 ![0, 1] bcast_S2048x1_S2048x512_0_1 (rMean X)))) (constant S_ .f32 0x00000000#32) reducesTo_S2048x512_S2048_d1 h_S_)) (broadcastInDim S2048x1 ![] bcast_S_S2048x1 (subf (constant S_ .f32 0x44000000#32) (sitofp .f32 (constantI S_ 32 0#32))))) (broadcastInDim S2048x1 ![] bcast_S_S2048x1 (id (constant S_ .f32 0x7FC00000#32)))

/-- The rows normalised, scaled and shifted. -/
def rNorm (X : FVec F S2048x512 .f32) (a4 : Vec F S512 .f32) (a5 : Vec F S512 .f32) : FVec F S2048x512 .f32 :=
  addf (mulf (Host.divf (subf X (broadcastInDim S2048x512 ![0, 1] bcast_S2048x1_S2048x512_0_1 (rMean X))) (broadcastInDim S2048x512 ![0, 1] bcast_S2048x1_S2048x512_0_1 (Host.sqrt (addf (rVar X) (broadcastInDim S2048x1 ![] bcast_S_S2048x1 (constant S_ .f32 0x3727C5AC#32)))))) (broadcastInDim S2048x512 ![0, 1] bcast_S1x512_S2048x512_0_1 (broadcastInDim S1x512 ![1] bcast_S512_S1x512_1 a4))) (broadcastInDim S2048x512 ![0, 1] bcast_S1x512_S2048x512_0_1 (broadcastInDim S1x512 ![1] bcast_S512_S1x512_1 a5))

/-- The hidden state. -/
def rHid (N : FVec F S2048x512 .f32) (a0 : Vec F S2048x10 .f32) (a6 : Vec F S10x512 .f32) : FVec F S2048x512 .f32 :=
  addf (mulf N (Host.divf (broadcastInDim S2048x512 ![] bcast_S_S2048x512 (constant S_ .f32 0x3F800000#32)) (addf (broadcastInDim S2048x512 ![] bcast_S_S2048x512 (constant S_ .f32 0x3F800000#32)) (Host.exp (Host.negf N))))) (Host.dotGeneral dot_S2048x10_S10x512_S2048x512_1_0_0_1_n_n none a0 a6)

/-- Which atoms may attend to which. -/
def rMask (a0 : Vec F S2048x10 .f32) (a1 : Vec F S2048x4 .f32) (a11 : Vec F S2048 .i32) : IVec S2048x2048 1 :=
  andi (ori (ori (andi (broadcastInDim S2048x2048 ![0, 1] bcast_S2048x1_S2048x2048_0_1 (broadcastInDim S2048x1 ![0] bcast_S2048_S2048x1_0 (cmpf .ogt (shapeCast _ (extractStridedSlice S2048x1 ![0, 6] a0 slices_S2048x10_S2048x1_0_6) shapeCasts_S2048x1_S2048) (broadcastInDim S2048 ![] bcast_S_S2048 (constant S_ .f32 0x00000000#32))))) (broadcastInDim S2048x2048 ![0, 1] bcast_S1x2048_S2048x2048_0_1 (broadcastInDim S1x2048 ![1] bcast_S2048_S1x2048_1 (cmpf .ogt (shapeCast _ (extractStridedSlice S2048x1 ![0, 7] a0 slices_S2048x10_S2048x1_0_7) shapeCasts_S2048x1_S2048) (broadcastInDim S2048 ![] bcast_S_S2048 (constant S_ .f32 0x00000000#32)))))) (andi (broadcastInDim S2048x2048 ![0, 1] bcast_S2048x1_S2048x2048_0_1 (broadcastInDim S2048x1 ![0] bcast_S2048_S2048x1_0 (cmpf .ogt (shapeCast _ (extractStridedSlice S2048x1 ![0, 7] a0 slices_S2048x10_S2048x1_0_7) shapeCasts_S2048x1_S2048) (broadcastInDim S2048 ![] bcast_S_S2048 (constant S_ .f32 0x00000000#32))))) (broadcastInDim S2048x2048 ![0, 1] bcast_S1x2048_S2048x2048_0_1 (broadcastInDim S1x2048 ![1] bcast_S2048_S1x2048_1 (cmpf .ogt (shapeCast _ (extractStridedSlice S2048x1 ![0, 6] a0 slices_S2048x10_S2048x1_0_6) shapeCasts_S2048x1_S2048) (broadcastInDim S2048 ![] bcast_S_S2048 (constant S_ .f32 0x00000000#32))))))) (andi (broadcastInDim S2048x2048 ![0, 1] bcast_S2048x1_S2048x2048_0_1 (broadcastInDim S2048x1 ![0] bcast_S2048_S2048x1_0 (cmpf .ogt (shapeCast _ (extractStridedSlice S2048x1 ![0, 1] a1 slices_S2048x4_S2048x1_0_1) shapeCasts_S2048x1_S2048) (broadcastInDim S2048 ![] bcast_S_S2048 (constant S_ .f32 0x00000000#32))))) (broadcastInDim S2048x2048 ![0, 1] bcast_S1x2048_S2048x2048_0_1 (broadcastInDim S1x2048 ![1] bcast_S2048_S1x2048_1 (cmpf .ogt (shapeCast _ (extractStridedSlice S2048x1 ![0, 1] a1 slices_S2048x4_S2048x1_0_1) shapeCasts_S2048x1_S2048) (broadcastInDim S2048 ![] bcast_S_S2048 (constant S_ .f32 0x00000000#32))))))) (cmpi .ne (broadcastInDim S2048x2048 ![0, 1] bcast_S2048x1_S2048x2048_0_1 (broadcastInDim S2048x1 ![0] bcast_S2048_S2048x1_0 a11)) (broadcastInDim S2048x2048 ![0, 1] bcast_S1x2048_S2048x2048_0_1 (broadcastInDim S1x2048 ![1] bcast_S2048_S1x2048_1 a11)))

/-- A projection, split by head. -/
def rHeads (H : FVec F S2048x512 .f32) (W : Vec F S512x512 .f32) : FVec F S8x2048x64 .f32 :=
  transpose S8x2048x64 [1, 0, 2] (shapeCast _ (Host.dotGeneral dot_S2048x512_S512x512_S2048x512_1_0_0_1_n_n none H W) shapeCasts_S2048x512_S2048x8x64) transposes_S2048x8x64_S8x2048x64_1_0_2

/-- The masked scores. -/
def rScores (K : IVec S2048x2048 1) (Q : FVec F S8x2048x64 .f32) (Y : FVec F S8x2048x64 .f32) : FVec F S8x2048x2048 .f32 :=
  select (broadcastInDim S8x2048x2048 ![0, 1, 2] bcast_S1x2048x2048_S8x2048x2048_0_1_2 (broadcastInDim S1x2048x2048 ![1, 2] bcast_S2048x2048_S1x2048x2048_1_2 K)) (Host.divf (Host.dotGeneral dot_S8x2048x64_S8x2048x64_S8x2048x2048_2_2_1_1_0_0 none Q Y) (broadcastInDim S8x2048x2048 ![] bcast_S_S8x2048x2048 (constant S_ .f32 0x41000000#32))) (broadcastInDim S8x2048x2048 ![] bcast_S_S8x2048x2048 (id (constant S_ .f32 0xFF800000#32)))

/-- The rows' largest scores. -/
def rMaxs (A : FVec F S8x2048x2048 .f32) : FVec F S8x2048 .f32 :=
  Host.reduce FloatOps.maximumf A (constant S_ .f32 0xFF800000#32) reducesTo_S8x2048x2048_S8x2048_d2 h_S_

/-- The exponentials of the scores less their row's largest. -/
def rExps (A : FVec F S8x2048x2048 .f32) : FVec F S8x2048x2048 .f32 :=
  Host.exp (subf A (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (rMaxs A)))))

/-- The attention weights. -/
def rAtts (K : IVec S2048x2048 1) (E : FVec F S8x2048x2048 .f32) : FVec F S8x2048x2048 .f32 :=
  select (broadcastInDim S8x2048x2048 ![0, 1, 2] bcast_S1x2048x1_S8x2048x2048_0_1_2 (broadcastInDim S1x2048x1 ![1] bcast_S2048_S1x2048x1_1 (Host.reduce IntOp.ori K (constantI S_ 1 0#1) reducesTo_S2048x2048_S2048_d1 h_S_))) (Host.divf E (broadcastInDim S8x2048x2048 ![0, 1, 2] bcast_S8x2048x1_S8x2048x2048_0_1_2 (broadcastInDim S8x2048x1 ![0, 1] bcast_S8x2048_S8x2048x1_0_1 (Host.reduceAdd E (constant S_ .f32 0x00000000#32) reducesTo_S8x2048x2048_S8x2048_d2 h_S_)))) (broadcastInDim S8x2048x2048 ![] bcast_S_S8x2048x2048 (constant S_ .f32 0x3A000000#32))

/-- The weighted values, the heads side by side again. -/
def rCtx (B : FVec F S8x2048x2048 .f32) (Z : FVec F S8x2048x64 .f32) : FVec F S2048x512 .f32 :=
  shapeCast _ (transpose S2048x8x64 [1, 0, 2] (Host.dotGeneral dot_S8x2048x2048_S8x2048x64_S8x2048x64_2_1_1_2_0_0 none B Z) transposes_S8x2048x64_S2048x8x64_1_0_2) shapeCasts_S2048x8x64_S2048x512

/-- The reference's result from its arguments. -/
def rResult (a0 : Vec F S2048x10 .f32) (a1 : Vec F S2048x4 .f32) (a2 : Vec F S4x512 .f32) (a3 : Vec F S512 .f32) (a4 : Vec F S512 .f32) (a5 : Vec F S512 .f32) (a6 : Vec F S10x512 .f32) (a7 : Vec F S512x512 .f32) (a8 : Vec F S512x512 .f32) (a9 : Vec F S512x512 .f32) (a10 : Vec F S512x512 .f32) (a11 : Vec F S2048 .i32) : FVec F S2048x512 .f32 :=
  let H := rHid (rNorm (rLin a1 a2 a3) a4 a5) a0 a6
  let K := rMask a0 a1 a11
  let B := rAtts K (rExps (rScores K (rHeads H a7) (rHeads H a8)))
  addf H (Host.dotGeneral dot_S2048x512_S512x512_S2048x512_1_0_0_1_n_n none (rCtx B (rHeads H a9)) a10)

/-- The printed program's result is that. -/
theorem res_eq (m : (ℓ : Loc nD τ sig) → Buf (Elt F) ℓ) (c : Dev nD) :
    Cert.ReferenceIdeal.Value.res_main_v98 m c = rResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.Proof.Attn.Ref

end
-- ==== Proof.RefVals.lean ====
module

public import proofs.«01_k».proof.Proof.RefStages
public import proofs.«01_k».proof.Proof.RowMax

@[expose] public section

set_option maxRecDepth 16384

noncomputable section

namespace Cert.Proof.Attn.Ref

open Idealize.ShloMosaic Idealize.ShloMosaic.TcCoe Idealize.ShloMosaic.Tactic
open Cert.ReferenceIdeal Cert.ReferenceIdeal.Gen

/-! # The reference's stages, element by element, over the extended reals -/

/-- The linear map. -/
theorem rLin_apply (a1 : Vec Ideal S2048x4 .f32) (a2 : Vec Ideal S4x512 .f32) (a3 : Vec Ideal S512 .f32) (r : Fin 2048) (j : Fin 512) :
    rLin a1 a2 a3 (ix2 r j) = lin (fun k => a1 (ix2 r k)) (fun k j => a2 (ix2 k j)) (fun j => a3 (ix1 j)) j := by
  pointwise [rLin]
  rfl

/-- The mean. -/
theorem rMean_apply (X : FVec Ideal S2048x512 .f32) (r : Fin 2048) : rMean X (ix2 r 0) = mean (fun j => X (ix2 r j)) := by
  pointwise [rMean]
  rfl

/-- The number of features less nothing. -/
theorem width_sub : Ideal.ofBits .f32 0x44000000#32 - FloatOps.sitofp (F := Ideal) .f32 0#32 = width := by
  show width - (((0#32 : BitVec 32).toInt : ℝ) : EReal) = width
  simp

/-- The number of features is positive. -/
theorem width_pos : 0 < width := by
  have : width = ((512 : ℝ) : EReal) := by
    simp [width, Ideal.ofBits, Ideal.ieee]
    rw [← EReal.coe_mul]
    norm_num
  rw [this]
  exact_mod_cast (by norm_num : (0 : ℝ) < 512)

/-- The variance. -/
theorem rVar_apply (X : FVec Ideal S2048x512 .f32) (r : Fin 2048) : rVar X (ix2 r 0) = variance (fun j => X (ix2 r j)) := by
  have hm := fun r => rMean_apply X r
  generalize hM : rMean X = M at hm
  pointwise [rVar, hM]
  rw [width_sub, if_pos width_pos, hm]
  rfl

/-- The normalised rows. -/
theorem rNorm_apply (X : FVec Ideal S2048x512 .f32) (a4 a5 : Vec Ideal S512 .f32) (r : Fin 2048) (j : Fin 512) :
    rNorm X a4 a5 (ix2 r j) = normed (fun j => X (ix2 r j)) (fun j => a4 (ix1 j)) (fun j => a5 (ix1 j)) j := by
  pointwise [rNorm]
  rw [rMean_apply, rVar_apply]
  rfl

/-- The hidden state. -/
theorem rHid_apply (N : FVec Ideal S2048x512 .f32) (a0 : Vec Ideal S2048x10 .f32) (a6 : Vec Ideal S10x512 .f32) (r : Fin 2048) (j : Fin 512) :
    rHid N a0 a6 (ix2 r j) = N (ix2 r j) * Ideal.logistic (N (ix2 r j)) + ∑ k : Fin 10, a0 (ix2 r k) * a6 (ix2 k j) := by
  pointwise [rHid]
  rfl

/-- The mask. -/
theorem rMask_apply (a0 : Vec Ideal S2048x10 .f32) (a1 : Vec Ideal S2048x4 .f32) (a11 : Vec Ideal S2048 .i32) (r m : Fin 2048) :
    rMask a0 a1 a11 (ix2 r m) = BitVec.ofBool (((decide (0 < a0 (ix2 r 6)) && decide (0 < a0 (ix2 m 7))
      || decide (0 < a0 (ix2 r 7)) && decide (0 < a0 (ix2 m 6)))
      || decide (0 < a1 (ix2 r 1)) && decide (0 < a1 (ix2 m 1))) && decide (a11 (ix1 r) ≠ a11 (ix1 m))) := by
  have hand : ∀ p q : Bool, IntOp.andi (BitVec.ofBool p) (BitVec.ofBool q) = BitVec.ofBool (p && q) := by decide
  have hor : ∀ p q : Bool, IntOp.ori (BitVec.ofBool p) (BitVec.ofBool q) = BitVec.ofBool (p || q) := by decide
  have hne : IntOp.cmpi .ne (a11 (ix1 r)) (a11 (ix1 m)) = BitVec.ofBool (decide (a11 (ix1 r) ≠ a11 (ix1 m))) := by
    show BitVec.ofBool (!(a11 (ix1 r) == a11 (ix1 m))) = _
    rw [decide_not]
    rfl
  pointwise [rMask]
  rw [hne]
  simp only [hand, hor]

/-- A projection by head. -/
theorem rHeads_apply (H : FVec Ideal S2048x512 .f32) (W : Vec Ideal S512x512 .f32) (hd : Fin 8) (r : Fin 2048) (e : Fin 64) :
    rHeads H W (ix3 hd r e) = proj (fun c => H (ix2 r c)) (fun c j => W (ix2 c j)) ⟨64 * hd.val + e.val, by omega⟩ := by
  have hc : (⟨64 * hd.val + e.val, by omega⟩ : Fin 512) = ⟨hd.val * 64 + e.val, by omega⟩ := Fin.ext (by show _ + _ = _ + _; omega)
  rw [hc]
  pointwise [rHeads]
  rfl

/-- The scores. -/
theorem rScores_apply (K : IVec S2048x2048 1) (Q Y : FVec Ideal S8x2048x64 .f32) (hd : Fin 8) (r m : Fin 2048) :
    rScores K Q Y (ix3 hd r m) = Scalar.select (K (ix2 r m)) (Ideal.div (∑ e : Fin 64, Q (ix3 hd r e) * Y (ix3 hd m e)) eight) ⊥ := by
  rw [← negInf]
  pointwise [rScores]
  rfl

/-- A score has a head, a query and a key. -/
theorem red : Shape.Reduces S8x2048x2048 [2] S8x2048 :=
  ⟨reducesTo_S8x2048x2048_S8x2048_d2.1, by decide, reducesTo_S8x2048x2048_S8x2048_d2.2⟩

/-- The largest score of a row. -/
theorem rMaxs_apply (A : FVec Ideal S8x2048x2048 .f32) (hd : Fin 8) (r : Fin 2048) :
    rMaxs A (ix2 hd r) = Finset.univ.fold max ⊥ fun m => A (ix3 hd r m) :=
  hostRowMax_apply A red reducesTo_S8x2048x2048_S8x2048_d2 h_S_ hd r

/-- The exponentials of scores less a row's number. -/
theorem expOf_apply (A : FVec Ideal S8x2048x2048 .f32) (M : FVec Ideal S8x2048 .f32) (hd : Fin 8) (r m : Fin 2048) :
    Host.exp (subf A (broadcastInDim S8x2048x2048 ![0, 1, 2] bcast_S8x2048x1_S8x2048x2048_0_1_2 (broadcastInDim S8x2048x1 ![0, 1] bcast_S8x2048_S8x2048x1_0_1
      (maximumf (broadcastInDim S8x2048 ![] bcast_S_S8x2048 (constant S_ .f32 0xFF800000#32)) M)))) (ix3 hd r m)
        = Ideal.exp (A (ix3 hd r m) - max ⊥ (M (ix2 hd r))) := by
  rw [← negInf]
  pointwise

/-- The largest of minus infinity and a number is the number. -/
theorem exp_max_bot {a x y : EReal} (h : x = y) : Ideal.exp (a - max ⊥ x) = Ideal.exp (a - y) := by
  rw [h, max_eq_right bot_le]

/-- The exponentials. -/
theorem rExps_apply (A : FVec Ideal S8x2048x2048 .f32) (hd : Fin 8) (r m : Fin 2048) :
    rExps A (ix3 hd r m) = Ideal.exp (A (ix3 hd r m) - Finset.univ.fold max ⊥ fun m => A (ix3 hd r m)) :=
  (expOf_apply A (rMaxs A) hd r m).trans (exp_max_bot (rMaxs_apply A hd r))

/-- The weights. -/
theorem rAtts_apply (K : IVec S2048x2048 1) (E : FVec Ideal S8x2048x2048 .f32) (hd : Fin 8) (r m : Fin 2048) :
    rAtts K E (ix3 hd r m) = Scalar.select (Finset.univ.fold IntOp.ori 0#1 fun x => K (ix2 r x))
      (Ideal.div (E (ix3 hd r m)) (∑ m : Fin 2048, E (ix3 hd r m))) (Ideal.ofBits .f32 0x3A000000#32) := by
  pointwise [rAtts]

/-- The context. -/
theorem rCtx_apply (B : FVec Ideal S8x2048x2048 .f32) (Z : FVec Ideal S8x2048x64 .f32) (r : Fin 2048) (c : Fin 512) :
    rCtx B Z (ix2 r c) = ∑ m : Fin 2048, B (ix3 ⟨c.val / 64, by omega⟩ r m) * Z (ix3 ⟨c.val / 64, by omega⟩ m ⟨c.val % 64, by omega⟩) := by
  pointwise [rCtx]

/-- The inputs of the reference, by row and column. -/
def rInp (a0 : Vec Ideal S2048x10 .f32) (a1 : Vec Ideal S2048x4 .f32) (a2 : Vec Ideal S4x512 .f32) (a3 a4 a5 : Vec Ideal S512 .f32)
    (a6 : Vec Ideal S10x512 .f32) (a7 a8 a9 a10 : Vec Ideal S512x512 .f32) (a11 : Vec Ideal S2048 .i32) : Inp where
  P r k := a0 (ix2 r k)
  S r k := a1 (ix2 r k)
  Ws k j := a2 (ix2 k j)
  bs j := a3 (ix1 j)
  g j := a4 (ix1 j)
  b j := a5 (ix1 j)
  Wp k j := a6 (ix2 k j)
  Wq k j := a7 (ix2 k j)
  Wk k j := a8 (ix2 k j)
  Wv k j := a9 (ix2 k j)
  Wo k j := a10 (ix2 k j)
  ids r := a11 (ix1 r)

/-- A disjunction of bits is set exactly when one of them is. -/
theorem fold_ori {n : ℕ} (f : Fin n → BitVec 1) : Finset.univ.fold IntOp.ori 0#1 f = 1#1 ↔ ∃ x, f x = 1#1 := by
  have h : ∀ s : Finset (Fin n), s.fold IntOp.ori 0#1 f = 1#1 ↔ ∃ x ∈ s, f x = 1#1 := by
    intro s
    induction s using Finset.induction_on with
    | empty => simp
    | insert x s hx ih =>
      rw [Finset.fold_insert hx, (by decide : ∀ p q : BitVec 1, IntOp.ori p q = 1#1 ↔ p = 1#1 ∨ q = 1#1), ih]
      simp
  simpa using h Finset.univ

section Result

variable (a0 : Vec Ideal S2048x10 .f32) (a1 : Vec Ideal S2048x4 .f32) (a2 : Vec Ideal S4x512 .f32) (a3 a4 a5 : Vec Ideal S512 .f32)
    (a6 : Vec Ideal S10x512 .f32) (a7 a8 a9 a10 : Vec Ideal S512x512 .f32) (a11 : Vec Ideal S2048 .i32)

/-- The hidden state's rows. -/
theorem hid_apply (r : Fin 2048) (j : Fin 512) :
    rHid (rNorm (rLin a1 a2 a3) a4 a5) a0 a6 (ix2 r j) = hid (rInp a0 a1 a2 a3 a4 a5 a6 a7 a8 a9 a10 a11) r j := by
  rw [rHid_apply, rNorm_apply]
  simp only [rLin_apply]
  rfl

/-- The mask is set exactly at the pairs that may attend. -/
theorem mask_iff (r m : Fin 2048) :
    rMask a0 a1 a11 (ix2 r m) = 1#1 ↔ pairs (rInp a0 a1 a2 a3 a4 a5 a6 a7 a8 a9 a10 a11) r m := by
  rw [rMask_apply, (by decide : ∀ p : Bool, BitVec.ofBool p = 1#1 ↔ p = true)]
  simp only [Bool.or_eq_true, Bool.and_eq_true, decide_eq_true_eq]
  rfl

open Classical in
/-- The reference's result, element by element. -/
theorem rResult_apply (r : Fin 2048) (j : Fin 512) :
    rResult a0 a1 a2 a3 a4 a5 a6 a7 a8 a9 a10 a11 (ix2 r j) = rOut (rInp a0 a1 a2 a3 a4 a5 a6 a7 a8 a9 a10 a11) r j := by
  have hh := fun r j => hid_apply a0 a1 a2 a3 a4 a5 a6 a7 a8 a9 a10 a11 r j
  have hK := fun r m => mask_iff a0 a1 a2 a3 a4 a5 a6 a7 a8 a9 a10 a11 r m
  unfold rResult
  generalize rHid (rNorm (rLin a1 a2 a3) a4 a5) a0 a6 = H at hh ⊢
  generalize rMask a0 a1 a11 = K at hK ⊢
  have hA : ∀ hd r m, rScores K (rHeads H a7) (rHeads H a8) (ix3 hd r m) = rScore (rInp a0 a1 a2 a3 a4 a5 a6 a7 a8 a9 a10 a11) hd r m := by
    intro hd r m
    rw [rScores_apply]
    simp only [rHeads_apply, hh]
    unfold rScore Scalar.select
    exact if_congr (hK r m) rfl rfl
  generalize rScores K (rHeads H a7) (rHeads H a8) = A at hA ⊢
  have hE : ∀ hd r m, rExps A (ix3 hd r m) = rExp (rInp a0 a1 a2 a3 a4 a5 a6 a7 a8 a9 a10 a11) hd r m := by
    intro hd r m
    rw [rExps_apply]
    simp only [hA]
    rfl
  generalize rExps A = E at hE ⊢
  have hB : ∀ hd r m, rAtts K E (ix3 hd r m) = rAtt (rInp a0 a1 a2 a3 a4 a5 a6 a7 a8 a9 a10 a11) hd r m := by
    intro hd r m
    rw [rAtts_apply]
    simp only [hE]
    unfold rAtt Scalar.select
    exact if_congr ((fold_ori _).trans (exists_congr fun m => hK r m)) rfl rfl
  generalize rAtts K E = B at hB ⊢
  have hC : ∀ r c, rCtx B (rHeads H a9) (ix2 r c) = ∑ m, rAtt (rInp a0 a1 a2 a3 a4 a5 a6 a7 a8 a9 a10 a11) ⟨c.val / 64, by omega⟩ r m
      * kV (rInp a0 a1 a2 a3 a4 a5 a6 a7 a8 a9 a10 a11) m c := by
    intro r c
    rw [rCtx_apply]
    refine Finset.sum_congr rfl fun m _ => ?_
    rw [hB, rHeads_apply, show (⟨64 * (c.val / 64) + c.val % 64, by omega⟩ : Fin 512) = c from Fin.ext (Nat.div_add_mod _ _)]
    simp only [hh]
    rfl
  generalize rCtx B (rHeads H a9) = C at hC ⊢
  pointwise
  simp only [hh, hC]
  rfl

end Result

end Cert.Proof.Attn.Ref

end
-- ==== Proof.lean ====
/-
  The certificate of version v10: one launch whose grid of four first fills scratches with the projections of two blocks
  of atoms and then attends, against the layer written in plain jnp. The claims, in order:

  * the kernel's frame on words: both kinds of points run and leave the inputs alone (Proof/WordsFrame.lean);
  * the idealized kernel's frame, with and without the precondition, is its run (Proof/Run.lean), the result dropped;
  * the reference's frame is its generated run; its signature declares no semaphore;
  * the two named constants are what the table says;
  * the algebraic claim: the kernel's run ends with the entries `kOut` of its inputs, the reference's with the entries
    `rOut` of the same inputs (Proof/RefVals.lean), and the two agree on finite inputs (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.WordsFrame
public import proofs.«01_k».proof.Proof.Run
public import proofs.«01_k».proof.Proof.Equation
public import proofs.«01_k».proof.Proof.Finite
public import proofs.«01_k».proof.Proof.RefVals
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The idealized kernel ends with its arguments unchanged and its counters at zero. -/
theorem frame_kernel : Cert.quiescent_KernelIdeal (hKernelIdeal := Cert.KernelIdeal.Gen.facts) := fun m g _ =>
  (θ_run _ _ _).mono (fun _ h => ⟨fun c => (h.1 c).2, h.2⟩) (Attn.run m g)

/-- The reference ends with its arguments unchanged and its counters at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- An index of two coordinates is the pair of its coordinates. -/
theorem pair_eta (y : Shape.Idx ⟨2, ![2048, 512]⟩) : y = ix2 (show Fin 2048 from y 0) (show Fin 512 from y 1) := by
  funext a; fin_cases a <;> rfl

/-- From memories that agree on the arguments, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (H : (Attn.kInp m c).Finite) (hm :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v98 m' c = Attn.result m c := by
  obtain ⟨h0, h1, h2, h3, h4, h5, h6, h7, h8, h9, h10, h11⟩ := hm
  rw [Attn.Ref.res_eq, h0, h1, h2, h3, h4, h5, h6, h7, h8, h9, h10, h11]
  funext y
  rw [pair_eta y]
  exact (Attn.Ref.rResult_apply _ _ _ _ _ _ _ _ _ _ _ _ _ _).trans (Attn.out_eq H _ _).symm

/-- The two programs run from agreeing arguments and end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  refine ⟨fun c => Attn.result m c, (θ_run _ _ _).mono (fun _ h => h.1) (Attn.run m g), (θ_run _ _ _).mono (fun _ h c => ?_) (Cert.ReferenceIdeal.Value.run m' g')⟩
  exact ⟨(h c).1.trans (result_eq m m' c (Attn.kInp_finite m hp c) (hm c)), (h c).2⟩

theorem claim : Cert.Claim := ⟨Cert.Kernel.Gen.facts, Cert.KernelIdeal.Gen.facts, Cert.ReferenceIdeal.Gen.facts, Cert.Pre_finite.Gen.facts,
  fun m g _ => Words.frame m g, frame_kernel, fun m g _ => frame_kernel m g trivial,
  frame_reference, fun m g _ => frame_reference m g trivial,
  ⟨IdealRules.named_const.statement _ _ _ _ _ rfl, IdealRules.named_const.statement _ _ _ _ _ rfl⟩, algebraic⟩

end Cert.Proof

end
